-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_zero_hidden [hPre_zero_hidden : Cert.Pre_zero_hidden.Facts] (m : (ℓ : Loc Cert.KernelIdeal.nD Cert.KernelIdeal.τ Cert.KernelIdeal.sig) → Buf (Elt Ideal) ℓ) : Prop :=
  ∀ c : Dev Cert.KernelIdeal.nD,
    (Cert.Pre_zero_hidden.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_zero_hidden [hPre_zero_hidden : Cert.Pre_zero_hidden.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_zero_hidden.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_zero_hidden [hKernelIdeal : Cert.KernelIdeal.Facts] [hPre_zero_hidden : Cert.Pre_zero_hidden.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_zero_hidden m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_zero_hidden [hReferenceIdeal : Cert.ReferenceIdeal.Facts] [hPre_zero_hidden : Cert.Pre_zero_hidden.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_zero_hidden m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_zero_hidden [hKernelIdeal : Cert.KernelIdeal.Facts] [hReferenceIdeal : Cert.ReferenceIdeal.Facts] [hPre_zero_hidden : Cert.Pre_zero_hidden.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_zero_hidden m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_zero_hidden : Cert.Pre_zero_hidden.Facts),
    quiescent_Kernel (hKernel := hKernel)
    ∧ quiescent_KernelIdeal (hKernelIdeal := hKernelIdeal)
    ∧ quiescent_KernelIdeal_pre_zero_hidden (hKernelIdeal := hKernelIdeal) (hPre_zero_hidden := hPre_zero_hidden)
    ∧ quiescent_ReferenceIdeal (hReferenceIdeal := hReferenceIdeal)
    ∧ quiescent_ReferenceIdeal_pre_zero_hidden (hReferenceIdeal := hReferenceIdeal) (hPre_zero_hidden := hPre_zero_hidden)
    ∧ preserves_Kernel_KernelIdeal
    ∧ algebraic_KernelIdeal_ReferenceIdeal_pre_zero_hidden (hKernelIdeal := hKernelIdeal) (hReferenceIdeal := hReferenceIdeal) (hPre_zero_hidden := hPre_zero_hidden)
-- ==== Pre_zero_hidden.lean ====
abbrev S8192x512 : Shape := ⟨2, ![8192, 512]⟩
abbrev S256x32x512 : Shape := ⟨3, ![256, 32, 512]⟩
abbrev S32x512x512 : Shape := ⟨3, ![32, 512, 512]⟩
abbrev S32x512 : Shape := ⟨2, ![32, 512]⟩
abbrev S32x1536x512 : Shape := ⟨3, ![32, 1536, 512]⟩
abbrev S32x1536 : Shape := ⟨2, ![32, 1536]⟩
abbrev S32x64x512 : Shape := ⟨3, ![32, 64, 512]⟩
abbrev S32x64 : Shape := ⟨2, ![32, 64]⟩
abbrev S_ : Shape := ⟨0, ![]⟩

class Facts : Prop where
  bcast_S_S256x32x512 : S_.BroadcastsInDim S256x32x512 (![] : Fin 0 → Fin S256x32x512.rank)
  reducesTo_S256x32x512_S_d0_1_2 : S256x32x512.ReducesTo [0, 1, 2] S_
  h_S_ : 0 < S_.numel

variable [Facts]

def fn {F : FTy → Type} [FloatOps F] (main_arg0 : FVec F S8192x512 .f32) (main_arg1 : FVec F S256x32x512 .f32) (main_arg2 : FVec F S32x512x512 .f32) (main_arg3 : FVec F S32x512 .f32) (main_arg4 : FVec F S32x1536x512 .f32) (main_arg5 : FVec F S32x1536 .f32) (main_arg6 : FVec F S32x1536x512 .f32) (main_arg7 : FVec F S32x1536 .f32) (main_arg8 : FVec F S32x64x512 .f32) (main_arg9 : FVec F S32x64 .f32) : IVec S_ 1 :=
  let main_cst : FVec F S_ .f32 := constant S_ .f32 0x00000000#32
  let main_v0 : FVec F S256x32x512 .f32 := broadcastInDim S256x32x512 ![] bcast_S_S256x32x512 main_cst
  let main_v1 : IVec S256x32x512 1 := cmpf .oeq main_arg1 main_v0
  let main_c : IVec S_ 1 := constantI S_ 1 1#1
  let main_v2 : IVec S_ 1 := (fun x v => Host.reduce IntOp.andi x v reducesTo_S256x32x512_S_d0_1_2 h_S_) main_v1 main_c
  main_v2
-- ==== Kernel.lean ====
abbrev S8192x512 : Shape := ⟨2, ![8192, 512]⟩
abbrev S256x32x512 : Shape := ⟨3, ![256, 32, 512]⟩
abbrev S32x512x512 : Shape := ⟨3, ![32, 512, 512]⟩
abbrev S32x512 : Shape := ⟨2, ![32, 512]⟩
abbrev S32x1536x512 : Shape := ⟨3, ![32, 1536, 512]⟩
abbrev S32x1536 : Shape := ⟨2, ![32, 1536]⟩
abbrev S32x64x512 : Shape := ⟨3, ![32, 64, 512]⟩
abbrev S32x64 : Shape := ⟨2, ![32, 64]⟩
abbrev S32x1x512 : Shape := ⟨3, ![32, 1, 512]⟩
abbrev S32x1x1536 : Shape := ⟨3, ![32, 1, 1536]⟩
abbrev S32x1x64 : Shape := ⟨3, ![32, 1, 64]⟩
abbrev S256x32x64 : Shape := ⟨3, ![256, 32, 64]⟩
abbrev S256x8x512 : Shape := ⟨3, ![256, 8, 512]⟩
abbrev S2x512x512 : Shape := ⟨3, ![2, 512, 512]⟩
abbrev S2x1x512 : Shape := ⟨3, ![2, 1, 512]⟩
abbrev S2x1536x512 : Shape := ⟨3, ![2, 1536, 512]⟩
abbrev S2x1x1536 : Shape := ⟨3, ![2, 1, 1536]⟩
abbrev S2x64x512 : Shape := ⟨3, ![2, 64, 512]⟩
abbrev S2x1x64 : Shape := ⟨3, ![2, 1, 64]⟩
abbrev S256x8x64 : Shape := ⟨3, ![256, 8, 64]⟩
abbrev S256x1x512 : Shape := ⟨3, ![256, 1, 512]⟩
abbrev S256x512 : Shape := ⟨2, ![256, 512]⟩
abbrev S1x512x512 : Shape := ⟨3, ![1, 512, 512]⟩
abbrev S512x512 : Shape := ⟨2, ![512, 512]⟩
abbrev S1x1x512 : Shape := ⟨3, ![1, 1, 512]⟩
abbrev S1x512 : Shape := ⟨2, ![1, 512]⟩
abbrev S1x1536x512 : Shape := ⟨3, ![1, 1536, 512]⟩
abbrev S1536x512 : Shape := ⟨2, ![1536, 512]⟩
abbrev S256x1536 : Shape := ⟨2, ![256, 1536]⟩
abbrev S1x1x1536 : Shape := ⟨3, ![1, 1, 1536]⟩
abbrev S1x1536 : Shape := ⟨2, ![1, 1536]⟩
abbrev S1x64x512 : Shape := ⟨3, ![1, 64, 512]⟩
abbrev S64x512 : Shape := ⟨2, ![64, 512]⟩
abbrev S256x64 : Shape := ⟨2, ![256, 64]⟩
abbrev S1x1x64 : Shape := ⟨3, ![1, 1, 64]⟩
abbrev S1x64 : Shape := ⟨2, ![1, 64]⟩
abbrev S256x1x64 : Shape := ⟨3, ![256, 1, 64]⟩
abbrev S8192x64 : Shape := ⟨2, ![8192, 64]⟩

abbrev nBuf : Space → Nat
  | .hbm => 18
  | .vmem => 20
  | .smem => 0
  | _ => 0

abbrev bufTy : (tb : Table) → Fin (tcTables nBuf tb) → BufTy
  | .hbm, ⟨0, _⟩ => ⟨S8192x512, .f32⟩
  | .hbm, ⟨1, _⟩ => ⟨S256x32x512, .f32⟩
  | .hbm, ⟨2, _⟩ => ⟨S32x512x512, .f32⟩
  | .hbm, ⟨3, _⟩ => ⟨S32x512, .f32⟩
  | .hbm, ⟨4, _⟩ => ⟨S32x1536x512, .f32⟩
  | .hbm, ⟨5, _⟩ => ⟨S32x1536, .f32⟩
  | .hbm, ⟨6, _⟩ => ⟨S32x1536x512, .f32⟩
  | .hbm, ⟨7, _⟩ => ⟨S32x1536, .f32⟩
  | .hbm, ⟨8, _⟩ => ⟨S32x64x512, .f32⟩
  | .hbm, ⟨9, _⟩ => ⟨S32x64, .f32⟩
  | .hbm, ⟨10, _⟩ => ⟨S256x32x512, .f32⟩
  | .hbm, ⟨11, _⟩ => ⟨S32x1x512, .f32⟩
  | .hbm, ⟨12, _⟩ => ⟨S32x1x1536, .f32⟩
  | .hbm, ⟨13, _⟩ => ⟨S32x1x1536, .f32⟩
  | .hbm, ⟨14, _⟩ => ⟨S32x1x64, .f32⟩
  | .hbm, ⟨15, _⟩ => ⟨S256x32x64, .f32⟩
  | .hbm, ⟨16, _⟩ => ⟨S256x32x512, .f32⟩
  | .hbm, ⟨17, _⟩ => ⟨S8192x64, .f32⟩
  | .local _ .vmem, ⟨0, _⟩ => ⟨S256x8x512, .f32⟩
  | .local _ .vmem, ⟨1, _⟩ => ⟨S256x8x512, .f32⟩
  | .local _ .vmem, ⟨2, _⟩ => ⟨S2x512x512, .f32⟩
  | .local _ .vmem, ⟨3, _⟩ => ⟨S2x512x512, .f32⟩
  | .local _ .vmem, ⟨4, _⟩ => ⟨S2x1x512, .f32⟩
  | .local _ .vmem, ⟨5, _⟩ => ⟨S2x1x512, .f32⟩
  | .local _ .vmem, ⟨6, _⟩ => ⟨S2x1536x512, .f32⟩
  | .local _ .vmem, ⟨7, _⟩ => ⟨S2x1536x512, .f32⟩
  | .local _ .vmem, ⟨8, _⟩ => ⟨S2x1x1536, .f32⟩
  | .local _ .vmem, ⟨9, _⟩ => ⟨S2x1x1536, .f32⟩
  | .local _ .vmem, ⟨10, _⟩ => ⟨S2x1x1536, .f32⟩
  | .local _ .vmem, ⟨11, _⟩ => ⟨S2x1x1536, .f32⟩
  | .local _ .vmem, ⟨12, _⟩ => ⟨S2x64x512, .f32⟩
  | .local _ .vmem, ⟨13, _⟩ => ⟨S2x64x512, .f32⟩
  | .local _ .vmem, ⟨14, _⟩ => ⟨S2x1x64, .f32⟩
  | .local _ .vmem, ⟨15, _⟩ => ⟨S2x1x64, .f32⟩
  | .local _ .vmem, ⟨16, _⟩ => ⟨S256x8x64, .f32⟩
  | .local _ .vmem, ⟨17, _⟩ => ⟨S256x8x64, .f32⟩
  | .local _ .vmem, ⟨18, _⟩ => ⟨S256x8x512, .f32⟩
  | .local _ .vmem, ⟨19, _⟩ => ⟨S256x8x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev main_v6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 4], ![false, false]⟩

def k0_off1 (i : grid0.Coords) (c0_i32 : BitVec 32) : Fin 3 → Nat :=
  let c0 : Index := 0#32
  let arg1 : BitVec 32 := BitVec.ofNat 32 (i 1).val
  let c2_i32 : BitVec 32 := 2#32
  let v0 : BitVec 32 := Scalar.muli arg1 c2_i32
  let v1 : BitVec 32 := Scalar.addi v0 c0_i32
  let v2 : Index := Scalar.indexCast v1
  let c0_0 : Index := 0#32
  ![0, v2.toNat, 0]
def k0_off2 (i : grid0.Coords) (c0_i32 : BitVec 32) : Fin 3 → Nat :=
  let c0_28 : Index := 0#32
  let arg1 : BitVec 32 := BitVec.ofNat 32 (i 1).val
  let c2_i32 : BitVec 32 := 2#32
  let v0 : BitVec 32 := Scalar.muli arg1 c2_i32
  let v1 : BitVec 32 := Scalar.addi v0 c0_i32
  let v53 : Index := Scalar.indexCast v1
  let c0_29 : Index := 0#32
  ![0, v53.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg0
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg0
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg0
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg0
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg0
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg0
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg0
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x1536x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x1x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x1x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2x1x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x8x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S256x8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ReferenceIdeal.lean ====
abbrev S8192x512 : Shape := ⟨2, ![8192, 512]⟩
abbrev S256x32x512 : Shape := ⟨3, ![256, 32, 512]⟩
abbrev S32x512x512 : Shape := ⟨3, ![32, 512, 512]⟩
abbrev S32x512 : Shape := ⟨2, ![32, 512]⟩
abbrev S32x1536x512 : Shape := ⟨3, ![32, 1536, 512]⟩
abbrev S32x1536 : Shape := ⟨2, ![32, 1536]⟩
abbrev S32x64x512 : Shape := ⟨3, ![32, 64, 512]⟩
abbrev S32x64 : Shape := ⟨2, ![32, 64]⟩
abbrev S32x512x256 : Shape := ⟨3, ![32, 512, 256]⟩
abbrev S1x32x512 : Shape := ⟨3, ![1, 32, 512]⟩
abbrev S_ : Shape := ⟨0, ![]⟩
abbrev S32x1536x256 : Shape := ⟨3, ![32, 1536, 256]⟩
abbrev S256x32x1536 : Shape := ⟨3, ![256, 32, 1536]⟩
abbrev S1x32x1536 : Shape := ⟨3, ![1, 32, 1536]⟩
abbrev S32x64x256 : Shape := ⟨3, ![32, 64, 256]⟩
abbrev S256x32x64 : Shape := ⟨3, ![256, 32, 64]⟩
abbrev S1x32x64 : Shape := ⟨3, ![1, 32, 64]⟩
abbrev S8192x64 : Shape := ⟨2, ![8192, 64]⟩

abbrev nBuf : Space → Nat
  | .hbm => 68
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S256x32x512, .f32⟩
  | .hbm, ⟨2, _⟩ => ⟨S32x512x512, .f32⟩
  | .hbm, ⟨3, _⟩ => ⟨S32x512, .f32⟩
  | .hbm, ⟨4, _⟩ => ⟨S32x1536x512, .f32⟩
  | .hbm, ⟨5, _⟩ => ⟨S32x1536, .f32⟩
  | .hbm, ⟨6, _⟩ => ⟨S32x1536x512, .f32⟩
  | .hbm, ⟨7, _⟩ => ⟨S32x1536, .f32⟩
  | .hbm, ⟨8, _⟩ => ⟨S32x64x512, .f32⟩
  | .hbm, ⟨9, _⟩ => ⟨S32x64, .f32⟩
  | .hbm, ⟨10, _⟩ => ⟨S256x32x512, .f32⟩
  | .hbm, ⟨11, _⟩ => ⟨S32x512x256, .f32⟩
  | .hbm, ⟨12, _⟩ => ⟨S256x32x512, .f32⟩
  | .hbm, ⟨13, _⟩ => ⟨S1x32x512, .f32⟩
  | .hbm, ⟨14, _⟩ => ⟨S256x32x512, .f32⟩
  | .hbm, ⟨15, _⟩ => ⟨S256x32x512, .f32⟩
  | .hbm, ⟨16, _⟩ => ⟨S_, .f32⟩
  | .hbm, ⟨17, _⟩ => ⟨S256x32x512, .f32⟩
  | .hbm, ⟨18, _⟩ => ⟨S256x32x512, .f32⟩
  | .hbm, ⟨19, _⟩ => ⟨S32x1536x256, .f32⟩
  | .hbm, ⟨20, _⟩ => ⟨S256x32x1536, .f32⟩
  | .hbm, ⟨21, _⟩ => ⟨S1x32x1536, .f32⟩
  | .hbm, ⟨22, _⟩ => ⟨S256x32x1536, .f32⟩
  | .hbm, ⟨23, _⟩ => ⟨S256x32x1536, .f32⟩
  | .hbm, ⟨24, _⟩ => ⟨S32x1536x256, .f32⟩
  | .hbm, ⟨25, _⟩ => ⟨S256x32x1536, .f32⟩
  | .hbm, ⟨26, _⟩ => ⟨S1x32x1536, .f32⟩
  | .hbm, ⟨27, _⟩ => ⟨S256x32x1536, .f32⟩
  | .hbm, ⟨28, _⟩ => ⟨S256x32x1536, .f32⟩
  | .hbm, ⟨29, _⟩ => ⟨S256x32x512, .f32⟩
  | .hbm, ⟨30, _⟩ => ⟨S256x32x512, .f32⟩
  | .hbm, ⟨31, _⟩ => ⟨S256x32x512, .f32⟩
  | .hbm, ⟨32, _⟩ => ⟨S256x32x512, .f32⟩
  | .hbm, ⟨33, _⟩ => ⟨S256x32x512, .f32⟩
  | .hbm, ⟨34, _⟩ => ⟨S256x32x512, .f32⟩
  | .hbm, ⟨35, _⟩ => ⟨S256x32x512, .f32⟩
  | .hbm, ⟨36, _⟩ => ⟨S256x32x512, .f32⟩
  | .hbm, ⟨37, _⟩ => ⟨S256x32x512, .f32⟩
  | .hbm, ⟨38, _⟩ => ⟨S_, .f32⟩
  | .hbm, ⟨39, _⟩ => ⟨S256x32x512, .f32⟩
  | .hbm, ⟨40, _⟩ => ⟨S256x32x512, .f32⟩
  | .hbm, ⟨41, _⟩ => ⟨S_, .f32⟩
  | .hbm, ⟨42, _⟩ => ⟨S256x32x512, .f32⟩
  | .hbm, ⟨43, _⟩ => ⟨S256x32x512, .f32⟩
  | .hbm, ⟨44, _⟩ => ⟨S256x32x512, .f32⟩
  | .hbm, ⟨45, _⟩ => ⟨S256x32x512, .f32⟩
  | .hbm, ⟨46, _⟩ => ⟨S256x32x512, .f32⟩
  | .hbm, ⟨47, _⟩ => ⟨S_, .f32⟩
  | .hbm, ⟨48, _⟩ => ⟨S256x32x512, .f32⟩
  | .hbm, ⟨49, _⟩ => ⟨S256x32x512, .f32⟩
  | .hbm, ⟨50, _⟩ => ⟨S_, .f32⟩
  | .hbm, ⟨51, _⟩ => ⟨S256x32x512, .f32⟩
  | .hbm, ⟨52, _⟩ => ⟨S256x32x512, .f32⟩
  | .hbm, ⟨53, _⟩ => ⟨S256x32x512, .f32⟩
  | .hbm, ⟨54, _⟩ => ⟨S256x32x512, .f32⟩
  | .hbm, ⟨55, _⟩ => ⟨S256x32x512, .f32⟩
  | .hbm, ⟨56, _⟩ => ⟨S_, .f32⟩
  | .hbm, ⟨57, _⟩ => ⟨S256x32x512, .f32⟩
  | .hbm, ⟨58, _⟩ => ⟨S256x32x512, .f32⟩
  | .hbm, ⟨59, _⟩ => ⟨S256x32x512, .f32⟩
  | .hbm, ⟨60, _⟩ => ⟨S256x32x512, .f32⟩
  | .hbm, ⟨61, _⟩ => ⟨S256x32x512, .f32⟩
  | .hbm, ⟨62, _⟩ => ⟨S32x64x256, .f32⟩
  | .hbm, ⟨63, _⟩ => ⟨S256x32x64, .f32⟩
  | .hbm, ⟨64, _⟩ => ⟨S1x32x64, .f32⟩
  | .hbm, ⟨65, _⟩ => ⟨S256x32x64, .f32⟩
  | .hbm, ⟨66, _⟩ => ⟨S256x32x64, .f32⟩
  | .hbm, ⟨67, _⟩ => ⟨S8192x64, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_call0_cst : Ref sig .tc := ⟨.hbm, 16, rfl⟩
abbrev main_call0_v0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst : Ref sig .tc := ⟨.hbm, 38, rfl⟩
abbrev main_v26 : Ref sig .tc := ⟨.hbm, 39, rfl⟩
abbrev main_v27 : Ref sig .tc := ⟨.hbm, 40, rfl⟩
abbrev main_cst_0 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_1 : Ref sig .tc := ⟨.hbm, 47, rfl⟩
abbrev main_v33 : Ref sig .tc := ⟨.hbm, 48, rfl⟩
abbrev main_v34 : Ref sig .tc := ⟨.hbm, 49, rfl⟩
abbrev main_cst_2 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_3 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩

abbrev nD : Nat := 1
abbrev τ : Topo := Topo.v7x

variable {F : FTy → Type} [FloatOps F]
-- ==== Proof.Hand.KernelFrame.lean ====
/- The frame of the kernel: every weakly fair execution of `Cert.Kernel.main` ends, with its ten argument arrays as they
   were and every semaphore counter at zero. Nothing is said here of what the kernel writes: the two result windows are
   handed back at some contents. -/
module

public import proofs.«01_k».proof.Proof.Gen.Kernel.Skeleton
public import proofs.«01_k».proof.Proof.Gen.Kernel.Frame
public import Idealize.ShloMosaic.Lib.Claim

@[expose] public section

-- membership in a rectangle of production extents (`View.cover_of_tiled`): the elaborator's structural look
-- recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers the lines after the region WRITE, as references: results computed from contents the run does not name
    (an operand the body wrote by its own DMA, or a forgotten output), so nothing is stated of them either. -/
def T0 : Finset (Ref sig .tc) := {main_v6}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-! ## The frame claim's post from the frame run's -/

/-- THE FRAME from a frame run: for any proof data whose arrays are the region-entry contents (`hA`), a run to
    Lib/Pipeline/Frame.lean's `RDat.FramePostR` read at the argument arrays — a staged input by the library's
    `RDat.FramePostR.arr_in`, an array no window stages (none is in `T0`) by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      (Pipeline.RDat.FramePostR.arr_in h c 1 rfl).trans ((hA c 1).trans (V_main_arg2 m c)),
      ((h c).2 main_arg3 (Finset.mem_sdiff.mpr ⟨Pipeline.mem_restRefs_of main_arg3 (by decide) (by decide), by decide⟩)).trans (V_main_arg3 m c),
      (Pipeline.RDat.FramePostR.arr_in h c 3 rfl).trans ((hA c 3).trans (V_main_arg4 m c)),
      ((h c).2 main_arg5 (Finset.mem_sdiff.mpr ⟨Pipeline.mem_restRefs_of main_arg5 (by decide) (by decide), by decide⟩)).trans (V_main_arg5 m c),
      ((h c).2 main_arg6 (Finset.mem_sdiff.mpr ⟨Pipeline.mem_restRefs_of main_arg6 (by decide) (by decide), by decide⟩)).trans (V_main_arg6 m c),
      ((h c).2 main_arg7 (Finset.mem_sdiff.mpr ⟨Pipeline.mem_restRefs_of main_arg7 (by decide) (by decide), by decide⟩)).trans (V_main_arg7 m c),
      (Pipeline.RDat.FramePostR.arr_in h c 6 rfl).trans ((hA c 6).trans (V_main_arg8 m c)),
      ((h c).2 main_arg9 (Finset.mem_sdiff.mpr ⟨Pipeline.mem_restRefs_of main_arg9 (by decide) (by decide), by decide⟩)).trans (V_main_arg9 m c)⟩) h

/-! ## The kernel body on any staging memrefs: a subtype the run finds -/

/-- Each window's current staging memref at point `t`, spelled as the pipeline passes it (`bodyAt0`), and its wholeness. -/
abbrev ms0_0 (t : Fin cfg0.N) : Memref sig .tc .vmem S256x8x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2x512x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2x1x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x1536x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2x1x1536 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2x1x1536 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2x64x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2x1x64 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x8x64 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x8x512 .f32 := win0_9.stage (cfg0.slots t 9)
abbrev hs0_9 (t : Fin cfg0.N) : (ms0_9 t).IsWhole := hstage0_9 ((cfg0.slots t 9).cast nbuf0_9)

-- (the run's proof term is large: checking it walks past the default budget)
set_option maxHeartbeats 1000000 in
/-- The body's triple: on whole staging memrefs — the inputs' at their contents,
    the FORGOTTEN outputs' (8, 9) at anything, handed back at some contents nothing names —
    the body runs to the continuation holding the inputs' as they were: the printed functions are their skeletons (`Gen.*_eq_skeleton`),
    which `sl_exec` runs (Lib/Exec.lean). -/
theorem kernelRun0_A (c : Dev nD) (i : grid0.Coords) (arg2 : Memref sig .tc .vmem S256x8x512 .f32) (harg2 : arg2.IsWhole) (arg3 : Memref sig .tc .vmem S2x512x512 .f32) (harg3 : arg3.IsWhole) (arg4 : Memref sig .tc .vmem S2x1x512 .f32) (harg4 : arg4.IsWhole) (arg5 : Memref sig .tc .vmem S2x1536x512 .f32) (harg5 : arg5.IsWhole) (arg6 : Memref sig .tc .vmem S2x1x1536 .f32) (harg6 : arg6.IsWhole) (arg7 : Memref sig .tc .vmem S2x1x1536 .f32) (harg7 : arg7.IsWhole) (arg8 : Memref sig .tc .vmem S2x64x512 .f32) (harg8 : arg8.IsWhole) (arg9 : Memref sig .tc .vmem S2x1x64 .f32) (harg9 : arg9.IsWhole) (arg10 : Memref sig .tc .vmem S256x8x64 .f32) (harg10 : arg10.IsWhole) (arg11 : Memref sig .tc .vmem S256x8x512 .f32) (harg11 : arg11.IsWhole)
    (x0 : Vec F S256x8x512 .f32) (x1 : Vec F S2x512x512 .f32) (x2 : Vec F S2x1x512 .f32) (x3 : Vec F S2x1536x512 .f32) (x4 : Vec F S2x1x1536 .f32) (x5 : Vec F S2x1x1536 .f32) (x6 : Vec F S2x64x512 .f32) (x7 : Vec F S2x1x64 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d)) -∗ K ⟨⟩))
          ⊢ wp frame (wpE (defs₀ (F := F)) Variants.none c none) E (cc0_no_shared_rnn_agent i arg2 harg2 arg3 harg3 arg4 harg4 arg5 harg5 arg6 harg6 arg7 harg7 arg8 harg8 arg9 harg9 arg10 harg10 arg11 harg11) K := by
    intro E K
    simp only [cc0_no_shared_rnn_agent_eq_skeleton]; unfold cc0_no_shared_rnn_agent_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _, _; isplitr; swap; · iexact H8
      ipureintro; rfl
    iexists _, _; isplitr; swap; · iexact H9
    ipureintro; rfl

/-! ## The pipeline's proof data -/

/-- The output windows this certificate FORGETS (8, 9): nothing reads what the kernel leaves in them, so nothing
    of it is named (Lib/Pipeline/Dat.lean `Dat.toRForget`). -/
def forgets0 : Fin 10 → Bool := fun w => w.val == 8 || w.val == 9

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare d)
    ∗ (∃ d, owns (c : Thread nD τ) (ms0_9 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ (∃ d, owns (c : Thread nD τ) (ms0_8 t) fullShare d)
    ∗ (∃ d, owns (c : Thread nD τ) (ms0_9 t) fullShare d))

set_option maxHeartbeats 800000 in
/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun0_A c (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_around_T_forget`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 8, 9) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (fun c => (dats m 0 c).toRForget forgets0) (A_eq m) (run_main m ρ)

/-- The kernel ends with its arguments as they were and every semaphore counter at zero, for any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.Kernel.Hand

end
-- ==== Proof.Hand.Body.lean ====
module

public import proofs.«01_k».proof.Proof.Gen.KernelIdeal.Skeleton
public import proofs.«01_k».proof.Proof.Gen.KernelIdeal.Frame
public import Idealize.ShloMosaic.Lib.Exec
public import Idealize.ShloMosaic.Lib.Tactic
public import Idealize.ShloMosaic.Lib.ValueIdx
public import Idealize.ShloMosaic.Lib.WritesUnit
public import Idealize.ShloMosaic.Lib.WholeRead

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

open Idealize.ShloMosaic.ValueIdx

/-- Row `s` of a 256x8x512 block, as a 256x1x512 array. -/
def rowOf (x : Vec F S256x8x512 .f32) (s : Fin 8) : Vec F S256x1x512 .f32 := fun y => x (ix3 (y 0) s (y 2))
/-- Agent `a`'s 512x512 matrix out of a block of two. -/
def part1 (x : Vec F S2x512x512 .f32) (a : Fin 2) : Vec F S1x512x512 .f32 := fun y => x (ix3 a (y 1) (y 2))
/-- Agent `a`'s row of length 512 out of a block of two. -/
def part2 (x : Vec F S2x1x512 .f32) (a : Fin 2) : Vec F S1x1x512 .f32 := fun y => x (ix3 a (y 1) (y 2))
/-- Agent `a`'s 1536x512 matrix out of a block of two. -/
def part3 (x : Vec F S2x1536x512 .f32) (a : Fin 2) : Vec F S1x1536x512 .f32 := fun y => x (ix3 a (y 1) (y 2))
/-- Agent `a`'s row of length 1536 out of a block of two. -/
def part4 (x : Vec F S2x1x1536 .f32) (a : Fin 2) : Vec F S1x1x1536 .f32 := fun y => x (ix3 a (y 1) (y 2))
/-- Agent `a`'s 64x512 matrix out of a block of two. -/
def part6 (x : Vec F S2x64x512 .f32) (a : Fin 2) : Vec F S1x64x512 .f32 := fun y => x (ix3 a (y 1) (y 2))
/-- Agent `a`'s row of length 64 out of a block of two. -/
def part7 (x : Vec F S2x1x64 .f32) (a : Fin 2) : Vec F S1x1x64 .f32 := fun y => x (ix3 a (y 1) (y 2))

/-- What one agent's step computes for the new hidden state, from the agent's inputs and weights. -/
def hRow (v3 : Vec F S256x1x512 .f32) (v5 : Vec F S1x512x512 .f32) (v8 : Vec F S1x1x512 .f32) (v14 : Vec F S1x1536x512 .f32) (v17 : Vec F S1x1x1536 .f32) (v21 : Vec F S1x1x1536 .f32) : FVec F S256x1x512 .f32 :=
  k0_pay9 (k0_pay4 v3 v5 v8 v14 v17 v21) (k0_pay5 v3 v5 v8 v14 v17 v21) (k0_pay6 v3 v5 v8 v14 v17) (k0_pay7 v21)

/-- What one agent's step computes for the action values, from the agent's inputs and weights. -/
def qRow (v3 : Vec F S256x1x512 .f32) (v5 : Vec F S1x512x512 .f32) (v8 : Vec F S1x1x512 .f32) (v14 : Vec F S1x1536x512 .f32) (v17 : Vec F S1x1x1536 .f32) (v21 : Vec F S1x1x1536 .f32) (v46 : Vec F S1x64x512 .f32) (v49 : Vec F S1x1x64 .f32) : FVec F S256x1x64 .f32 :=
  k0_pay10 (k0_pay4 v3 v5 v8 v14 v17 v21) (k0_pay5 v3 v5 v8 v14 v17 v21) (k0_pay6 v3 v5 v8 v14 v17) (k0_pay7 v21) v46 v49

/-- The hidden state that agent `a` of a block leaves, its input in row `s` of the block. -/
def hOf (x0 : Vec F S256x8x512 .f32) (x1 : Vec F S2x512x512 .f32) (x2 : Vec F S2x1x512 .f32) (x3 : Vec F S2x1536x512 .f32) (x4 : Vec F S2x1x1536 .f32) (x5 : Vec F S2x1x1536 .f32) (s : Fin 8) (a : Fin 2) : FVec F S256x1x512 .f32 :=
  hRow (rowOf x0 s) (part1 x1 a) (part2 x2 a) (part3 x3 a) (part4 x4 a) (part4 x5 a)

/-- The action values that agent `a` of a block leaves, its input in row `s` of the block. -/
def qOf (x0 : Vec F S256x8x512 .f32) (x1 : Vec F S2x512x512 .f32) (x2 : Vec F S2x1x512 .f32) (x3 : Vec F S2x1536x512 .f32) (x4 : Vec F S2x1x1536 .f32) (x5 : Vec F S2x1x1536 .f32) (x6 : Vec F S2x64x512 .f32) (x7 : Vec F S2x1x64 .f32) (s : Fin 8) (a : Fin 2) : FVec F S256x1x64 .f32 :=
  qRow (rowOf x0 s) (part1 x1 a) (part2 x2 a) (part3 x3 a) (part4 x4 a) (part4 x5 a) (part6 x6 a) (part7 x7 a)

/-- The row that agent `r` of the two occupies in its block of eight at the grid point `i`. -/
def rowAt (i : grid0.Coords) (r : Fin 2) : Fin 8 := ⟨2 * (i 1).val + r.val, by
  have h : (i 1).val < 4 := (i 1).isLt
  omega⟩

/-- A load of one row of a 256x8x512 block reads that row. -/
theorem read_row {arg : Memref sig .tc .vmem S256x8x512 .f32} (harg : arg.IsWhole) (x : Vec F S256x8x512 .f32) (i : grid0.Coords) (r : Fin 2)
    (h : ∀ a, k0_off1 i (BitVec.ofNat 32 r.val) a + S256x1x512.size a ≤ S256x8x512.size a) :
    View.readAt (Elt F) arg.view (Rect.unit (s := S256x8x512) (k0_off1 i (BitVec.ofNat 32 r.val)) S256x1x512.size h).toLoadRect (harg.unread x) = rowOf x (rowAt i r) := by
  funext y
  rw [harg.readAt_unread]
  unfold rowOf
  congr 1
  funext a
  apply Fin.ext
  have e := congrFun (k0_off1_eq i r) a
  show k0_off1 i (BitVec.ofNat 32 r.val) a + 1 * (y a).val = _
  rw [e]
  have h1 : (y 1).val < 1 := (y 1).isLt
  fin_cases a
  · show 0 + 1 * (y 0).val = (y 0).val; omega
  · show (2 * (i 1).val + r.val) + 1 * (y 1).val = 2 * (i 1).val + r.val; omega
  · show 0 + 1 * (y 2).val = (y 2).val; omega

/-- A load of one agent's part of a 2x512x512 block reads that part. -/
theorem read_part1 {arg : Memref sig .tc .vmem S2x512x512 .f32} (harg : arg.IsWhole) (x : Vec F S2x512x512 .f32) (r : Fin 2)
    (h : ∀ a, ![r.val, 0, 0] a + S1x512x512.size a ≤ S2x512x512.size a) :
    View.readAt (Elt F) arg.view (Rect.unit (s := S2x512x512) ![r.val, 0, 0] S1x512x512.size h).toLoadRect (harg.unread x) = part1 x r := by
  funext y
  rw [harg.readAt_unread]
  unfold part1
  congr 1
  funext a
  apply Fin.ext
  have h0 : (y 0).val < 1 := (y 0).isLt
  fin_cases a
  · show r.val + 1 * (y 0).val = r.val; omega
  · show 0 + 1 * (y 1).val = (y 1).val; omega
  · show 0 + 1 * (y 2).val = (y 2).val; omega

/-- A load of one agent's part of a 2x1x512 block reads that part. -/
theorem read_part2 {arg : Memref sig .tc .vmem S2x1x512 .f32} (harg : arg.IsWhole) (x : Vec F S2x1x512 .f32) (r : Fin 2)
    (h : ∀ a, ![r.val, 0, 0] a + S1x1x512.size a ≤ S2x1x512.size a) :
    View.readAt (Elt F) arg.view (Rect.unit (s := S2x1x512) ![r.val, 0, 0] S1x1x512.size h).toLoadRect (harg.unread x) = part2 x r := by
  funext y
  rw [harg.readAt_unread]
  unfold part2
  congr 1
  funext a
  apply Fin.ext
  have h0 : (y 0).val < 1 := (y 0).isLt
  fin_cases a
  · show r.val + 1 * (y 0).val = r.val; omega
  · show 0 + 1 * (y 1).val = (y 1).val; omega
  · show 0 + 1 * (y 2).val = (y 2).val; omega

/-- A load of one agent's part of a 2x1536x512 block reads that part. -/
theorem read_part3 {arg : Memref sig .tc .vmem S2x1536x512 .f32} (harg : arg.IsWhole) (x : Vec F S2x1536x512 .f32) (r : Fin 2)
    (h : ∀ a, ![r.val, 0, 0] a + S1x1536x512.size a ≤ S2x1536x512.size a) :
    View.readAt (Elt F) arg.view (Rect.unit (s := S2x1536x512) ![r.val, 0, 0] S1x1536x512.size h).toLoadRect (harg.unread x) = part3 x r := by
  funext y
  rw [harg.readAt_unread]
  unfold part3
  congr 1
  funext a
  apply Fin.ext
  have h0 : (y 0).val < 1 := (y 0).isLt
  fin_cases a
  · show r.val + 1 * (y 0).val = r.val; omega
  · show 0 + 1 * (y 1).val = (y 1).val; omega
  · show 0 + 1 * (y 2).val = (y 2).val; omega

/-- A load of one agent's part of a 2x1x1536 block reads that part. -/
theorem read_part4 {arg : Memref sig .tc .vmem S2x1x1536 .f32} (harg : arg.IsWhole) (x : Vec F S2x1x1536 .f32) (r : Fin 2)
    (h : ∀ a, ![r.val, 0, 0] a + S1x1x1536.size a ≤ S2x1x1536.size a) :
    View.readAt (Elt F) arg.view (Rect.unit (s := S2x1x1536) ![r.val, 0, 0] S1x1x1536.size h).toLoadRect (harg.unread x) = part4 x r := by
  funext y
  rw [harg.readAt_unread]
  unfold part4
  congr 1
  funext a
  apply Fin.ext
  have h0 : (y 0).val < 1 := (y 0).isLt
  fin_cases a
  · show r.val + 1 * (y 0).val = r.val; omega
  · show 0 + 1 * (y 1).val = (y 1).val; omega
  · show 0 + 1 * (y 2).val = (y 2).val; omega

/-- A load of one agent's part of a 2x64x512 block reads that part. -/
theorem read_part6 {arg : Memref sig .tc .vmem S2x64x512 .f32} (harg : arg.IsWhole) (x : Vec F S2x64x512 .f32) (r : Fin 2)
    (h : ∀ a, ![r.val, 0, 0] a + S1x64x512.size a ≤ S2x64x512.size a) :
    View.readAt (Elt F) arg.view (Rect.unit (s := S2x64x512) ![r.val, 0, 0] S1x64x512.size h).toLoadRect (harg.unread x) = part6 x r := by
  funext y
  rw [harg.readAt_unread]
  unfold part6
  congr 1
  funext a
  apply Fin.ext
  have h0 : (y 0).val < 1 := (y 0).isLt
  fin_cases a
  · show r.val + 1 * (y 0).val = r.val; omega
  · show 0 + 1 * (y 1).val = (y 1).val; omega
  · show 0 + 1 * (y 2).val = (y 2).val; omega

/-- A load of one agent's part of a 2x1x64 block reads that part. -/
theorem read_part7 {arg : Memref sig .tc .vmem S2x1x64 .f32} (harg : arg.IsWhole) (x : Vec F S2x1x64 .f32) (r : Fin 2)
    (h : ∀ a, ![r.val, 0, 0] a + S1x1x64.size a ≤ S2x1x64.size a) :
    View.readAt (Elt F) arg.view (Rect.unit (s := S2x1x64) ![r.val, 0, 0] S1x1x64.size h).toLoadRect (harg.unread x) = part7 x r := by
  funext y
  rw [harg.readAt_unread]
  unfold part7
  congr 1
  funext a
  apply Fin.ext
  have h0 : (y 0).val < 1 := (y 0).isLt
  fin_cases a
  · show r.val + 1 * (y 0).val = r.val; omega
  · show 0 + 1 * (y 1).val = (y 1).val; omega
  · show 0 + 1 * (y 2).val = (y 2).val; omega

/-- Two stores of a row each into a 256x8x64 block: each of the two rows reads what was stored in it, every other row what was there. -/
theorem read_rows8 {arg : Memref sig .tc .vmem S256x8x64 .f32} (f : arg.view.ty.Contents (Elt F)) (i : grid0.Coords) (p0 p1 : FVec F S256x1x64 .f32)
    (h0 : ∀ a, k0_off2 i (BitVec.ofNat 32 (0 : Fin 2).val) a + S256x1x64.size a ≤ S256x8x64.size a) (h1 : ∀ a, k0_off2 i (BitVec.ofNat 32 (1 : Fin 2).val) a + S256x1x64.size a ≤ S256x8x64.size a) (y : S256x8x64.Idx) :
    View.read (Elt F) arg.view (arg.view.writes (Elt F) f [⟨Rect.unit (s := S256x8x64) (k0_off2 i (BitVec.ofNat 32 (1 : Fin 2).val)) S256x1x64.size h1, p1⟩, ⟨Rect.unit (s := S256x8x64) (k0_off2 i (BitVec.ofNat 32 (0 : Fin 2).val)) S256x1x64.size h0, p0⟩]) y
      = if (y 1).val = 2 * (i 1).val + 1 then p1 (ix3 (y 0) 0 (y 2)) else if (y 1).val = 2 * (i 1).val then p0 (ix3 (y 0) 0 (y 2)) else View.read (Elt F) arg.view f y := by
  by_cases e1 : (y 1).val = 2 * (i 1).val + 1
  · rw [if_pos e1, View.read_writes_cons_unit_of_mem arg.view f h1 p1 _ y (ix3 (y 0) 0 (y 2)) (k0_off2_eq i 1) (fun a => by
      fin_cases a
      · show (y 0).val = 0 + (y 0).val; omega
      · show (y 1).val = (2 * (i 1).val + 1) + 0; omega
      · show (y 2).val = 0 + (y 2).val; omega)]
  · rw [if_neg e1, View.read_writes_cons_unit_of_not_mem arg.view f h1 p1 _ y (k0_off2_eq i 1) 1 (by
      show (y 1).val < 2 * (i 1).val + 1 ∨ (2 * (i 1).val + 1) + 1 ≤ (y 1).val; omega)]
    by_cases e0 : (y 1).val = 2 * (i 1).val
    · rw [if_pos e0, View.read_writes_cons_unit_of_mem arg.view f h0 p0 _ y (ix3 (y 0) 0 (y 2)) (k0_off2_eq i 0) (fun a => by
        fin_cases a
        · show (y 0).val = 0 + (y 0).val; omega
        · show (y 1).val = (2 * (i 1).val + 0) + 0; omega
        · show (y 2).val = 0 + (y 2).val; omega)]
    · rw [if_neg e0, View.read_writes_cons_unit_of_not_mem arg.view f h0 p0 _ y (k0_off2_eq i 0) 1 (by
        show (y 1).val < 2 * (i 1).val + 0 ∨ (2 * (i 1).val + 0) + 1 ≤ (y 1).val; omega)]
      rfl

/-- Two stores of a row each into a 256x8x512 block: each of the two rows reads what was stored in it, every other row what was there. -/
theorem read_rows9 {arg : Memref sig .tc .vmem S256x8x512 .f32} (f : arg.view.ty.Contents (Elt F)) (i : grid0.Coords) (p0 p1 : FVec F S256x1x512 .f32)
    (h0 : ∀ a, k0_off1 i (BitVec.ofNat 32 (0 : Fin 2).val) a + S256x1x512.size a ≤ S256x8x512.size a) (h1 : ∀ a, k0_off1 i (BitVec.ofNat 32 (1 : Fin 2).val) a + S256x1x512.size a ≤ S256x8x512.size a) (y : S256x8x512.Idx) :
    View.read (Elt F) arg.view (arg.view.writes (Elt F) f [⟨Rect.unit (s := S256x8x512) (k0_off1 i (BitVec.ofNat 32 (1 : Fin 2).val)) S256x1x512.size h1, p1⟩, ⟨Rect.unit (s := S256x8x512) (k0_off1 i (BitVec.ofNat 32 (0 : Fin 2).val)) S256x1x512.size h0, p0⟩]) y
      = if (y 1).val = 2 * (i 1).val + 1 then p1 (ix3 (y 0) 0 (y 2)) else if (y 1).val = 2 * (i 1).val then p0 (ix3 (y 0) 0 (y 2)) else View.read (Elt F) arg.view f y := by
  by_cases e1 : (y 1).val = 2 * (i 1).val + 1
  · rw [if_pos e1, View.read_writes_cons_unit_of_mem arg.view f h1 p1 _ y (ix3 (y 0) 0 (y 2)) (k0_off1_eq i 1) (fun a => by
      fin_cases a
      · show (y 0).val = 0 + (y 0).val; omega
      · show (y 1).val = (2 * (i 1).val + 1) + 0; omega
      · show (y 2).val = 0 + (y 2).val; omega)]
  · rw [if_neg e1, View.read_writes_cons_unit_of_not_mem arg.view f h1 p1 _ y (k0_off1_eq i 1) 1 (by
      show (y 1).val < 2 * (i 1).val + 1 ∨ (2 * (i 1).val + 1) + 1 ≤ (y 1).val; omega)]
    by_cases e0 : (y 1).val = 2 * (i 1).val
    · rw [if_pos e0, View.read_writes_cons_unit_of_mem arg.view f h0 p0 _ y (ix3 (y 0) 0 (y 2)) (k0_off1_eq i 0) (fun a => by
        fin_cases a
        · show (y 0).val = 0 + (y 0).val; omega
        · show (y 1).val = (2 * (i 1).val + 0) + 0; omega
        · show (y 2).val = 0 + (y 2).val; omega)]
    · rw [if_neg e0, View.read_writes_cons_unit_of_not_mem arg.view f h0 p0 _ y (k0_off1_eq i 0) 1 (by
        show (y 1).val < 2 * (i 1).val + 0 ∨ (2 * (i 1).val + 0) + 1 ≤ (y 1).val; omega)]
      rfl

/-- What the action-value block holds after a point: the two agents' rows, and elsewhere what it held before. -/
def After8 (i : grid0.Coords) (q0 q1 : FVec F S256x1x64 .f32) (d X : Vec F S256x8x64 .f32) : Prop :=
  ∀ y, X y = if (y 1).val = 2 * (i 1).val + 1 then q1 (ix3 (y 0) 0 (y 2)) else if (y 1).val = 2 * (i 1).val then q0 (ix3 (y 0) 0 (y 2)) else d y
/-- What the hidden-state block holds after a point: the two agents' rows, and elsewhere what it held before. -/
def After9 (i : grid0.Coords) (h0 h1 : FVec F S256x1x512 .f32) (d X : Vec F S256x8x512 .f32) : Prop :=
  ∀ y, X y = if (y 1).val = 2 * (i 1).val + 1 then h1 (ix3 (y 0) 0 (y 2)) else if (y 1).val = 2 * (i 1).val then h0 (ix3 (y 0) 0 (y 2)) else d y

set_option maxHeartbeats 1000000 in
theorem kernelRun (c : Dev nD) (i : grid0.Coords) (arg2 : Memref sig .tc .vmem S256x8x512 .f32) (harg2 : arg2.IsWhole) (arg3 : Memref sig .tc .vmem S2x512x512 .f32) (harg3 : arg3.IsWhole) (arg4 : Memref sig .tc .vmem S2x1x512 .f32) (harg4 : arg4.IsWhole) (arg5 : Memref sig .tc .vmem S2x1536x512 .f32) (harg5 : arg5.IsWhole) (arg6 : Memref sig .tc .vmem S2x1x1536 .f32) (harg6 : arg6.IsWhole) (arg7 : Memref sig .tc .vmem S2x1x1536 .f32) (harg7 : arg7.IsWhole) (arg8 : Memref sig .tc .vmem S2x64x512 .f32) (harg8 : arg8.IsWhole) (arg9 : Memref sig .tc .vmem S2x1x64 .f32) (harg9 : arg9.IsWhole) (arg10 : Memref sig .tc .vmem S256x8x64 .f32) (harg10 : arg10.IsWhole) (arg11 : Memref sig .tc .vmem S256x8x512 .f32) (harg11 : arg11.IsWhole)
    (x0 : Vec F S256x8x512 .f32) (x1 : Vec F S2x512x512 .f32) (x2 : Vec F S2x1x512 .f32) (x3 : Vec F S2x1536x512 .f32) (x4 : Vec F S2x1x1536 .f32) (x5 : Vec F S2x1x1536 .f32) (x6 : Vec F S2x64x512 .f32) (x7 : Vec F S2x1x64 .f32)
    (d8 : Vec F S256x8x64 .f32) (d9 : Vec F S256x8x512 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (owns (c : Thread nD τ) arg10 fullShare d8) ∗ (owns (c : Thread nD τ) arg11 fullShare d9)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ X, ⌜After8 i (qOf x0 x1 x2 x3 x4 x5 x6 x7 (rowAt i 0) 0) (qOf x0 x1 x2 x3 x4 x5 x6 x7 (rowAt i 1) 1) d8 X⌝ ∗ owns (c : Thread nD τ) arg10 fullShare X) ∗ (∃ X, ⌜After9 i (hOf x0 x1 x2 x3 x4 x5 (rowAt i 0) 0) (hOf x0 x1 x2 x3 x4 x5 (rowAt i 1) 1) d9 X⌝ ∗ owns (c : Thread nD τ) arg11 fullShare X)) -∗ K ⟨⟩))
          ⊢ wp frame (wpE (defs₀ (F := F)) Variants.none c none) E (cc0_no_shared_rnn_agent i arg2 harg2 arg3 harg3 arg4 harg4 arg5 harg5 arg6 harg6 arg7 harg7 arg8 harg8 arg9 harg9 arg10 harg10 arg11 harg11) K := by
    intro E K
    simp only [cc0_no_shared_rnn_agent_eq_skeleton]; unfold cc0_no_shared_rnn_agent_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _
      isplitr
      swap
      · iexists _; isplitr; swap
        · iexact H8
        · ipureintro; rfl
      · ipureintro
        intro y
        have e := read_rows8 (F := F) (arg := arg10) f8 i (qOf x0 x1 x2 x3 x4 x5 x6 x7 (rowAt i 0) 0) (qOf x0 x1 x2 x3 x4 x5 x6 x7 (rowAt i 1) 1) (k0_off2_inb i 0) (k0_off2_inb i 1) y
        rw [hf8] at e
        rw [← e]
        sl_unfold_run_names
        unfold qOf qRow
        rw [← read_row harg2 x0 i 0 (k0_off1_inb i 0), ← read_part1 harg3 x1 0 inb_S2x512x512_S1x512x512_0_0_0, ← read_part2 harg4 x2 0 inb_S2x1x512_S1x1x512_0_0_0, ← read_part3 harg5 x3 0 inb_S2x1536x512_S1x1536x512_0_0_0, ← read_part4 harg6 x4 0 inb_S2x1x1536_S1x1x1536_0_0_0, ← read_part4 harg7 x5 0 inb_S2x1x1536_S1x1x1536_0_0_0, ← read_part6 harg8 x6 0 inb_S2x64x512_S1x64x512_0_0_0, ← read_part7 harg9 x7 0 inb_S2x1x64_S1x1x64_0_0_0]
        rw [← read_row harg2 x0 i 1 (k0_off1_inb i 1), ← read_part1 harg3 x1 1 inb_S2x512x512_S1x512x512_1_0_0, ← read_part2 harg4 x2 1 inb_S2x1x512_S1x1x512_1_0_0, ← read_part3 harg5 x3 1 inb_S2x1536x512_S1x1536x512_1_0_0, ← read_part4 harg6 x4 1 inb_S2x1x1536_S1x1x1536_1_0_0, ← read_part4 harg7 x5 1 inb_S2x1x1536_S1x1x1536_1_0_0, ← read_part6 harg8 x6 1 inb_S2x64x512_S1x64x512_1_0_0, ← read_part7 harg9 x7 1 inb_S2x1x64_S1x1x64_1_0_0]
        rfl
    · iexists _
      isplitr
      swap
      · iexists _; isplitr; swap
        · iexact H9
        · ipureintro; rfl
      · ipureintro
        intro y
        have e := read_rows9 (F := F) (arg := arg11) f9 i (hOf x0 x1 x2 x3 x4 x5 (rowAt i 0) 0) (hOf x0 x1 x2 x3 x4 x5 (rowAt i 1) 1) (k0_off1_inb i 0) (k0_off1_inb i 1) y
        rw [hf9] at e
        rw [← e]
        sl_unfold_run_names
        unfold hOf hRow
        rw [← read_row harg2 x0 i 0 (k0_off1_inb i 0), ← read_part1 harg3 x1 0 inb_S2x512x512_S1x512x512_0_0_0, ← read_part2 harg4 x2 0 inb_S2x1x512_S1x1x512_0_0_0, ← read_part3 harg5 x3 0 inb_S2x1536x512_S1x1536x512_0_0_0, ← read_part4 harg6 x4 0 inb_S2x1x1536_S1x1x1536_0_0_0, ← read_part4 harg7 x5 0 inb_S2x1x1536_S1x1x1536_0_0_0]
        rw [← read_row harg2 x0 i 1 (k0_off1_inb i 1), ← read_part1 harg3 x1 1 inb_S2x512x512_S1x512x512_1_0_0, ← read_part2 harg4 x2 1 inb_S2x1x512_S1x1x512_1_0_0, ← read_part3 harg5 x3 1 inb_S2x1536x512_S1x1536x512_1_0_0, ← read_part4 harg6 x4 1 inb_S2x1x1536_S1x1x1536_1_0_0, ← read_part4 harg7 x5 1 inb_S2x1x1536_S1x1x1536_1_0_0]
        rfl

end Cert.KernelIdeal.Hand

end
-- ==== Proof.Hand.Launch.lean ====
/- The launch of a program that is one pipelined region followed by lines of host operations, for proof data that relate
   what an array may hold: the post names what the lines after the region leave, computed from SOME contents the arrays may
   hold once every block is written back. -/
module

public import Idealize.ShloMosaic.Lib.Pipeline.FrameSuffix

@[expose] public section

noncomputable section

namespace Cert.KernelIdeal.Hand

open Idealize.ShloMosaic Idealize.ShloMosaic.TcCoe Idealize.ShloMosaic.Pipeline Idealize.ShloMosaic.Rounds
open Idealize.SL Idealize.SL.RA Idealize.SL.Sem Idealize.SL.ProofMode
open Idealize.SL.BI (sProp bigSep)
open scoped Idealize.SL.BI
open Idealize.SL.BI.BIBase Idealize.SL.BI.Laws

section

variable {nD : Nat} {τ : Topo} {sig : RefSig} {Val : EltTy → Type} [∀ e, Nonempty (Val e)]
variable {Λ₀ : Labels} {P : Type} [Fintype P] [DecidableEq P]
variable (pcs : P → PCfg sig Λ₀ Val) (a : (p : P) → (pcs p).Adm) (p : P)

local notation "𝕄" => MT nD τ sig Unit Val ℕ (UR sig nD τ) ℕ

/-- The arrays after every write-back, opened: each at some contents its window's write-backs allow. -/
theorem arraysAt_open (rdat : (c : Dev nD) → RDat τ Val Unit ℕ (UR sig nD τ) ℕ (pin pcs a p) c) (c : Dev nD) :
    ((RDat.familyOf pcs a p rdat p c).arraysAt (pin pcs a p).N : sProp 𝕄)
      ⊢ iprop(∃ A, ⌜∀ w, (rdat c).ArrAt w (pin pcs a p).N (A w)⌝ ∗ (rdat c).arrays A) := by
  rw [RDat.familyOf_self]
  unfold RDat.arraysAt RDat.arrays
  refine (BI.bigSep_exists_pi Finset.univ _).trans ?_
  iintro ⟨%A, Ha⟩
  ihave Ha2 := (BI.bigSep_pure_sep Finset.univ (fun w => (rdat c).ArrAt w (pin pcs a p).N (A w))
    (fun w => ((pin pcs a p).win w).arr.view.loc (c.tc : Thread nD τ)
      ↦[((pin pcs a p).win w).arr.view.set]{(rdat c).share w} A w)) $$ Ha
  icases Ha2 with ⟨%h, Ha⟩
  iexists A
  isplitr
  · ipureintro; exact fun w => h w (Finset.mem_univ w)
  iexact Ha

/-- The arrays at given contents that the write-backs allow are the arrays after every write-back. -/
theorem arraysAt_close (rdat : (c : Dev nD) → RDat τ Val Unit ℕ (UR sig nD τ) ℕ (pin pcs a p) c) (c : Dev nD)
    (A : (w : Fin (pin pcs a p).W) → Buf Val (((pin pcs a p).win w).arr.view.loc (c.tc : Thread nD τ)))
    (h : ∀ w, (rdat c).ArrAt w (pin pcs a p).N (A w)) :
    ((rdat c).arrays A : sProp 𝕄) ⊢ (RDat.familyOf pcs a p rdat p c).arraysAt (pin pcs a p).N := by
  rw [RDat.familyOf_self]
  unfold RDat.arraysAt RDat.arrays
  refine BI.bigSep_mono fun w _ => ?_
  show (((pin pcs a p).win w).arr.view.loc (c.tc : Thread nD τ) ↦[((pin pcs a p).win w).arr.view.set]{(rdat c).share w} A w : sProp 𝕄)
    ⊢ iprop(∃ X, ⌜(rdat c).ArrAt w (pin pcs a p).N X⌝
      ∗ ((pin pcs a p).win w).arr.view.loc (c.tc : Thread nD τ) ↦[((pin pcs a p).win w).arr.view.set]{(rdat c).share w} X)
  iintro H
  iexists (A w)
  isplitr
  · ipureintro; exact h w
  iexact H

variable (kit : PLaunchFacts₀ (nD := nD) (τ := τ) pcs p) (defs₀ : Defs nD τ sig Val Λ₀) (𝒱₀ : Variants)

/-- What a run leaves: every array of the pipeline at some contents its write-backs allow; and, for SOME such contents of
    all the arrays, every buffer that bypasses the region at what the lines after the region compute from them. -/
def LinesPost (rdat : (c : Dev nD) → RDat τ Val Unit ℕ (UR sig nD τ) ℕ (pin pcs a p) c) (V₀ : Dev nD → Valuation τ sig Val)
    (ops : List (HloOp τ sig Val)) (s : MemSt nD τ sig Val) : Prop :=
  ∀ c : Dev nD,
    (∀ w, (rdat c).ArrAt w (pin pcs a p).N (s.mem (((pin pcs a p).win w).arr.view.loc (c.tc : Thread nD τ))))
    ∧ ∃ A : (w : Fin (pin pcs a p).W) → Buf Val (((pin pcs a p).win w).arr.view.loc (c.tc : Thread nD τ)),
        (∀ w, (rdat c).ArrAt w (pin pcs a p).N (A w))
        ∧ ∀ b ∈ restRefsP sig (pcs p).pre (pin pcs a p).spec, s.mem ((c.tc : Thread nD τ).loc b)
            = StableHlo.after ops (withArrays (pin pcs a p).spec c (V₀ c) A) (Proc.devRef .tc b)

include kit in
/-- Every execution of the region and then the lines `opss` ends as `LinesPost` says, every semaphore counter at zero. -/
theorem run_lines_tables (rdat : (c : Dev nD) → RDat τ Val Unit ℕ (UR sig nD τ) ℕ (pin pcs a p) c)
    (m : (ℓ : Loc nD τ sig) → Buf Val ℓ) (g : Dev nD → PrngReg)
    (main : Dev nD → Prog (TpuEff nD τ sig Val (Sig Λ₀ P fun p => (pcs p).Adm) .tc) PUnit)
    (hbody : ∀ c, (rdat c).BodyObligation defs₀ 𝒱₀ () Set.univ)
    (hq : ∀ c w, ((pin pcs a p).spec w).isOut = false → (rdat c).q w = shareOf (pin pcs a p).spec w)
    (howed : ∀ c t, (rdat c).owed t = 0)
    (V₀ : Dev nD → Valuation τ sig Val) (opss : List (List (HloOp τ sig Val)))
    (hsub : ∀ ops ∈ opss, ∀ op ∈ ops, op.bufs ⊆ tailRefs sig (pcs p).pre (pin pcs a p).spec)
    (hfresh : ∀ ops ∈ opss, ∀ op ∈ ops, op.fresh = ∅)
    (hkeep : ∀ ops ∈ opss, ∀ op ∈ ops, ∀ w, Proc.devRef .tc (arrRef (pin pcs a p).spec w) ∉ op.writes)
    (hmain : HMainPK (Ix := Unit) (Name := ℕ) (U := UR sig nD τ) (Lvl := ℕ) pcs p defs₀ 𝒱₀ m main
      (fun c b => V₀ c (Proc.devRef .tc b)) (fun _ => chain (opss.map StableHlo.seq)))
    (hA : ∀ c w, (rdat c).A w = V₀ c (Proc.devRef .tc (arrRef (pin pcs a p).spec w)))
    (hpf : ∀ c k, V₀ c (Proc.devRef .tc ((pcs p).pre.ref k)) = (a p).1 k)
    (hin : ∀ c, iprop(ΦA (pin pcs a p).spec c ∗ ΦT (pcs p).pre (a p).1 c) ⊢ (rdat c).Φ 0)
    (hout : ∀ c, (rdat c).Φ (Fin.last (pin pcs a p).N) ⊢ ΦA (pin pcs a p).spec c) :
    θ_run (Pipeline.defs pcs defs₀) (onTc main) (s₀ m g)
      (fun r => LinesPost pcs a p rdat V₀ opss.flatten r.2 ∧ r.2.sem = fun _ => 0) := by
  classical
  let rest := restRefsP sig (pcs p).pre (pin pcs a p).spec
  let V : (c : Dev nD) → (b : Ref sig .tc) → Buf Val ((c.tc : Thread nD τ).loc b) := fun c b => V₀ c (Proc.devRef .tc b)
  let Out (c : Dev nD) (G : (b : Ref sig .tc) → Buf Val ((c.tc : Thread nD τ).loc b)) : Prop :=
    ∃ A : (w : Fin (pin pcs a p).W) → Buf Val (((pin pcs a p).win w).arr.view.loc (c.tc : Thread nD τ)),
      (∀ w, (rdat c).ArrAt w (pin pcs a p).N (A w))
      ∧ ∀ b, G b = StableHlo.after opss.flatten (withArrays (pin pcs a p).spec c (V₀ c) A) (Proc.devRef .tc b)
  exact RDat.θ_run_region_pf_tail_quiescent pcs a (RDat.familyOf pcs a p rdat) () (kit.cellOf_inj a) p kit.win
    (OwnSemFacts.none (pin pcs a p).spec) kit.pre emb₁ defs₀ 𝒱₀ m g main
    (fun _ => chain (opss.map StableHlo.seq)) (fun c => by rw [RDat.familyOf_self]; exact hbody c)
    kit.block_pos kit.arr_whole kit.stage_whole (fun c t => by rw [RDat.familyOf_self]; exact howed c t)
    (G := fun _ => iprop(emp)) (u₀ := initOf (cells (pin pcs a) (kit.cellOf_inj a)) (launchToks (pin pcs a) (kit.cellOf_inj a)))
    (hu₀ := by
      iintro Hu; imodintro
      isplitl [Hu]
      · iapply (show (ownU _ : sProp 𝕄) ⊢ BI.own (emb₁ (initOf (cells (pin pcs a) (kit.cellOf_inj a))
          (launchToks (pin pcs a) (kit.cellOf_inj a)))) from .rfl)
        iexact Hu
      iapply (show (BI.emp : sProp 𝕄) ⊢ bigSep Finset.univ (fun _ : Dev nD => (BI.emp : sProp 𝕄)) from by
        rw [BI.bigSep_emp_const])
      iempintro)
    (V := V) (hmain := hmain)
    (hsplit := fun c => by
      rw [RDat.familyOf_self]; exact (rdat c).arrays_split_shared kit.sharedIn kit.arr_whole (hq c) (V c) _ (hA c))
    (hpf := hpf)
    (X := fun c => iprop(∃ r, prngReg c r)) (Y := fun c => iprop(∃ r, prngReg c r))
    (Z := fun c => unscopedRestP (Ix := Unit) (Name := ℕ) (U := UR sig nD τ) (Lvl := ℕ) (pcs p).pre (pin pcs a p).spec c (V c))
    (Z' := fun c => iprop(∃ G, ⌜Out c G⌝
      ∗ unscopedRestP (Ix := Unit) (Name := ℕ) (U := UR sig nD τ) (Lvl := ℕ) (pcs p).pre (pin pcs a p).spec c G))
    (hX := fun c => by
      iintro ⟨HU, -, -, Hp, -⟩; imodintro
      isplitl [Hp]; · iexists _; iexact Hp
      iexact HU)
    (hin := fun c => by
      rw [RDat.familyOf_self]
      refine Entails.trans ?_ (hin c)
      unfold ΦA ΦT
      iintro ⟨Hp, Ht, Hr⟩
      isplitr [Ht]
      · isplitl [Hr] <;> iassumption
      iexact Ht)
    (hout := fun c => by
      rw [RDat.familyOf_self]
      refine (hout c).trans ?_
      rw [ownSems0_none]; unfold ΦA
      iintro ⟨Hr, Hp⟩
      isplitl [Hp]; · iexact Hp
      isplitr; · iempintro
      iexact Hr)
    (htail := fun c Q' => by
      iintro ⟨Hk, Hb, Ha, HZ⟩
      ihave Ha' := (arraysAt_open pcs a p rdat c) $$ Ha
      icases Ha' with ⟨%A, %hA', Ha⟩
      have hB : (rdat c).arrays A
          = arrBufs (pin pcs a p).spec c (fun b => withArrays (pin pcs a p).spec c (V₀ c) A (Proc.devRef .tc b)) :=
        ((rdat c).arrBufs_eq_arrays kit.sharedIn kit.arr_whole (hq c) _ A fun w =>
          (withArrays_arr_shared (pin pcs a p).spec c (V₀ c) A
            ((rdat c).ArrAt_sharedIn kit.sharedIn (V₀ c) (hA c) (pin pcs a p).N A hA') w).symm).symm
      iapply (tail_seqs_bufs_b pcs defs₀ 𝒱₀ (pcs p).pre (pin pcs a p).spec c (V₀ c) A opss hsub hfresh hkeep Q')
      isplitl [Hk]
      · iintro ⟨Hb2, Ha2, Hu⟩
        iapply Hk
        isplitl [Hb2]; · iexact Hb2
        isplitl [Ha2]
        · iapply (arraysAt_close pcs a p rdat c A hA'); iapply (Entails.of_eq hB.symm); iexact Ha2
        iexists (fun b => StableHlo.after opss.flatten (withArrays (pin pcs a p).spec c (V₀ c) A) (Proc.devRef .tc b))
        isplitr
        · ipureintro; exact ⟨A, hA', fun _ => rfl⟩
        iexact Hu
      · isplitl [Hb]; · iexact Hb
        isplitl [Ha]; · iapply (Entails.of_eq hB); iexact Ha
        iexact HZ)
    (QY := fun c s => ∃ G, Out c G ∧ ∀ b ∈ rest, s.mem ((c.tc : Thread nD τ).loc b) = G b)
    (hY := fun c s' => by
      iintro ⟨-, HZ, HSI⟩
      icases HZ with ⟨%G, %hG, HZ⟩
      unfold unscopedRestP
      ihave HZ' := (pointsTo_read_all rest (fun b => (c.tc : Thread nD τ).loc b) G s') $$ [HZ HSI]
      · isplitl [HZ] <;> iassumption
      icases HZ' with ⟨%hZ, HSI⟩
      imodintro
      isplitr
      · ipureintro; exact ⟨G, hG, hZ⟩
      iexact HSI)
    (hQ := fun s h hz => ⟨fun c => ⟨fun w => by simpa only [RDat.familyOf_self] using (h c).1 w, by
      obtain ⟨G, ⟨A, hA', hG⟩, hs⟩ := (h c).2.2
      exact ⟨A, hA', fun b hb => (hs b hb).trans (hG b)⟩⟩, hz⟩)

end

section

variable {nD : Nat} {τ : Topo} {sig : RefSig} {Val : EltTy → Type} [∀ e, Nonempty (Val e)]
variable {Λ₀ : Labels} {P : Type} [Fintype P] [DecidableEq P]
variable (cfgs : P → Cfg sig Λ₀) (p : P) (kit : LaunchFacts (nD := nD) (τ := τ) cfgs p)
  (defs₀ : Defs nD τ sig Val Λ₀) (𝒱₀ : Variants)

include kit in
/-- `run_lines_tables` for a region that prefetches no table: at the end every array is at some contents its write-backs
    allow, every other unscoped buffer is at what the lines after the region compute from some such contents, and every
    semaphore counter is zero. -/
theorem run_lines (rdat : (c : Dev nD) → RDat τ Val Unit ℕ (UR sig nD τ) ℕ (cfgs p) c)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, (rdat c).BodyObligation defs₀ 𝒱₀ () Set.univ)
    (hshare : ∀ c w, (rdat c).share w = fullShare) (howed : ∀ c t, (rdat c).owed t = 0)
    (V₀ : Dev nD → Valuation τ sig Val) (opss : List (List (HloOp τ sig Val)))
    (hsub : ∀ ops ∈ opss, ∀ op ∈ ops, op.bufs ⊆ tailRefs sig Prefetch.none (cfgs p).spec)
    (hfresh : ∀ ops ∈ opss, ∀ op ∈ ops, op.fresh = ∅)
    (hkeep : ∀ ops ∈ opss, ∀ op ∈ ops, ∀ w, Proc.devRef .tc (arrRef (cfgs p).spec w) ∉ op.writes)
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (hA : ∀ c w, (rdat c).A w = V₀ c (Proc.devRef .tc (arrRef (cfgs p).spec w)))
    (hΦ : ∀ c t, (rdat c).Φ t = ΦA (cfgs p).spec c) :
    θ_run (Pipeline.defs (fun q => Cfg.toPCfg (Val := Val) (cfgs q)) defs₀) (onTc main) (s₀ m g)
      (fun r => (∀ c : Dev nD,
          (∀ w, (rdat c).ArrAt w (cfgs p).N (r.2.mem (((cfgs p).win w).arr.view.loc (c.tc : Thread nD τ))))
          ∧ ∃ A : (w : Fin (cfgs p).W) → Buf Val (((cfgs p).win w).arr.view.loc (c.tc : Thread nD τ)),
              (∀ w, (rdat c).ArrAt w (cfgs p).N (A w))
              ∧ ∀ b ∈ restRefs sig (cfgs p).spec, r.2.mem ((c.tc : Thread nD τ).loc b)
                  = StableHlo.after opss.flatten (withArrays (cfgs p).spec c (V₀ c) A) (Proc.devRef .tc b))
        ∧ r.2.sem = fun _ => 0) := by
  refine (θ_run _ _ _).mono (fun r h => ?_) (run_lines_tables (fun q => (cfgs q).toPCfg (Val := Val)) (fun q => (cfgs q).toPCfg_adm) p
    kit.toP.to₀ defs₀ 𝒱₀ rdat m g main hbody
    (fun c w hw => (rdat c).q_eq_shareOf_of_share_full kit.win.arr_inj (hshare c) w hw) howed V₀ opss hsub hfresh hkeep hmain hA
    (fun _ k => k.elim0) (fun c => by rw [hΦ]; iintro ⟨H, -⟩; iexact H) (fun c => by rw [hΦ]))
  refine ⟨fun c => ⟨(h.1 c).1, ?_⟩, h.2⟩
  obtain ⟨A, hA', hb⟩ := (h.1 c).2
  refine ⟨A, hA', fun b hbr => hb b (Finset.mem_sdiff.mpr ⟨hbr, fun hm => ?_⟩)⟩
  obtain ⟨k, -, -⟩ := Finset.mem_image.mp hm
  exact k.elim0

end

end Cert.KernelIdeal.Hand

end
-- ==== Proof.Hand.Run.lean ====
/- The run of the kernel with its outputs named. At the grid point t = 4a + j the body writes rows 2j and 2j + 1 of the two
   output blocks of the group a of eight agents and leaves the other rows as it finds them; after the fourth point of the group
   all eight rows are written, and the block is written back. `HDone` and `QDone` say which rows hold what; from them
   the two result arrays are `hAt` and `qAt` at every index. -/
module

public import proofs.«01_k».proof.Proof.Hand.Body
public import proofs.«01_k».proof.Proof.Hand.Launch
public import Idealize.ShloMosaic.Lib.Pipeline.DatRel
public import Idealize.ShloMosaic.Lib.Pipeline.ArrRel
public import Idealize.ShloMosaic.Lib.Pipeline.ValueKit.Geometry
public import Idealize.ShloMosaic.Lib.Claim

@[expose] public section

-- membership in a rectangle of production extents (`View.cover_of_tiled`): the elaborator's structural look
-- recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-- Each window's current staging memref at point `t`, spelled as the pipeline passes it (`bodyAt0`), and its wholeness. -/
abbrev ms0_0 (t : Fin cfg0.N) : Memref sig .tc .vmem S256x8x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2x512x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2x1x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x1536x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2x1x1536 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2x1x1536 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2x64x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2x1x64 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x8x64 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x8x512 .f32 := win0_9.stage (cfg0.slots t 9)
abbrev hs0_9 (t : Fin cfg0.N) : (ms0_9 t).IsWhole := hstage0_9 ((cfg0.slots t 9).cast nbuf0_9)

/-! ## What the outputs hold -/

/-- The grid point that computes agent `s`. -/
def ptOf (s : Fin 32) : Fin cfg0.N := ⟨s.val / 2, by have := s.isLt; show s.val / 2 < 16; omega⟩

/-- The place of agent `s` in its group of eight. -/
def rowIn (s : Fin 32) : Fin 8 := ⟨s.val % 8, Nat.mod_lt _ (by omega)⟩

/-- The place of agent `s` in its pair. -/
def inPair (s : Fin 32) : Fin 2 := ⟨s.val % 2, Nat.mod_lt _ (by omega)⟩

/-- The agent in row `y` of the output block at the grid point `t`. -/
def agentAt (t : Fin cfg0.N) (y : Fin 8) : Fin 32 := ⟨8 * (t.val / 4) + y.val, by
  have h : t.val < 16 := t.isLt
  have := y.isLt
  omega⟩

/-- The hidden state of batch row `b` and agent `s`, entry `n`, as the kernel computes it from its blocks. -/
def hAt (c : Dev nD) (b : Fin 256) (s : Fin 32) (n : Fin 512) : F .f32 :=
  hOf (iblk m c 0 (ptOf s)) (iblk m c 1 (ptOf s)) (iblk m c 2 (ptOf s)) (iblk m c 3 (ptOf s)) (iblk m c 4 (ptOf s))
    (iblk m c 5 (ptOf s)) (rowIn s) (inPair s) (ix3 b 0 n)

/-- The value of action `n` of batch row `b` and agent `s`, as the kernel computes it from its blocks. -/
def qAt (c : Dev nD) (b : Fin 256) (s : Fin 32) (n : Fin 64) : F .f32 :=
  qOf (iblk m c 0 (ptOf s)) (iblk m c 1 (ptOf s)) (iblk m c 2 (ptOf s)) (iblk m c 3 (ptOf s)) (iblk m c 4 (ptOf s))
    (iblk m c 5 (ptOf s)) (iblk m c 6 (ptOf s)) (iblk m c 7 (ptOf s)) (rowIn s) (inPair s) (ix3 b 0 n)

/-- After point `t` the rows of the hidden-state block written so far in its group hold `hAt`. -/
def HDone (c : Dev nD) (t : Fin cfg0.N) (X : S256x8x512.Idx → F .f32) : Prop :=
  ∀ y : S256x8x512.Idx, (y 1).val ≤ 2 * (t.val % 4) + 1 → X y = hAt m c (y 0) (agentAt t (y 1)) (y 2)

/-- After point `t` the rows of the action-value block written so far in its group hold `qAt`. -/
def QDone (c : Dev nD) (t : Fin cfg0.N) (X : S256x8x64.Idx → F .f32) : Prop :=
  ∀ y : S256x8x64.Idx, (y 1).val ≤ 2 * (t.val % 4) + 1 → X y = qAt m c (y 0) (agentAt t (y 1)) (y 2)

/-- The second grid coordinate of a point is the point's number in its group. -/
theorem coord1 : ∀ t : Fin cfg0.N, ((grid0.coords t) 1).val = t.val % 4 := by decide +kernel

/-- A row written at point `t` belongs to an agent that `t` computes. -/
theorem agent_at (t : Fin cfg0.N) (r : Fin 2) (y : Fin 8) (h : y.val = 2 * (t.val % 4) + r.val) :
    ptOf (agentAt t y) = t ∧ rowIn (agentAt t y) = rowAt (grid0.coords t) r ∧ inPair (agentAt t y) = r := by
  have h1 := coord1 t
  have hr := r.isLt
  refine ⟨Fin.ext ?_, Fin.ext ?_, Fin.ext ?_⟩
  · show (8 * (t.val / 4) + y.val) / 2 = t.val; omega
  · show (8 * (t.val / 4) + y.val) % 8 = 2 * ((grid0.coords t) 1).val + r.val; omega
  · show (8 * (t.val / 4) + y.val) % 2 = r.val; omega

/-! ## The proof data -/

/-- The outputs, of which only the rows written so far are named. -/
def marked : Fin 10 → Bool := fun w => w.val == 8 || w.val == 9

/-- What the two outputs satisfy after each point. -/
def Rl (c : Dev nD) : (w : Fin cfg0.W) → Fin cfg0.N → ((cfg0.win w).block.Idx → Elt F (cfg0.win w).elt) → Prop := fun w t =>
  match w with
  | ⟨8, _⟩ => fun X => QDone m c t X
  | ⟨9, _⟩ => fun X => HDone m c t X
  | _ => fun _ => True

/-- The proof data of the one pipeline on core `c`, the outputs not yet related to anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
  Φ _ := Pipeline.ΦA spec0 c
  q _ := fullShare
  owed _ := 0

/-- The proof data with the two outputs held to what the points so far have written. -/
def rdat (c : Dev nD) : Pipeline.RDat τ (Elt F) Unit ℕ (UR sig nD τ) ℕ cfg0 c := (dats m 0 c).toRRel marked (Rl m c)

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## One point's step of the outputs -/

/-- What the body finds in the hidden-state block, not at the first point of a group, is what the point before left. -/
theorem hDone_prev (c : Dev nD) (t : Fin cfg0.N) (h : t.val % 4 ≠ 0) {Y : S256x8x512.Idx → F .f32} (hY : (rdat m c).Finds 9 t Y) :
    HDone m c ⟨t.val - 1, Nat.lt_of_le_of_lt (Nat.sub_le _ _) t.isLt⟩ Y := by
  rcases (Pipeline.RDat.finds_of_pos (rdat m c) (w := 9) (t := t) rfl (fun e => h (by omega)) Y).mp hY with hf | hL
  · have := (flush0_9 _).mp hf
    exfalso
    dsimp only at this
    omega
  · exact (dats m 0 c).toRRel_leaves (fgt := marked) (Rl := Rl m c) (w := 9) rfl hL

/-- What the body finds in the action-value block, not at the first point of a group, is what the point before left. -/
theorem qDone_prev (c : Dev nD) (t : Fin cfg0.N) (h : t.val % 4 ≠ 0) {Y : S256x8x64.Idx → F .f32} (hY : (rdat m c).Finds 8 t Y) :
    QDone m c ⟨t.val - 1, Nat.lt_of_le_of_lt (Nat.sub_le _ _) t.isLt⟩ Y := by
  rcases (Pipeline.RDat.finds_of_pos (rdat m c) (w := 8) (t := t) rfl (fun e => h (by omega)) Y).mp hY with hf | hL
  · have := (flush0_8 _).mp hf
    exfalso
    dsimp only at this
    omega
  · exact (dats m 0 c).toRRel_leaves (fgt := marked) (Rl := Rl m c) (w := 8) rfl hL

/-- The body's two stores into the hidden-state block carry `HDone` one point on. -/
theorem hDone_step (c : Dev nD) (t : Fin cfg0.N) {d X : S256x8x512.Idx → F .f32} (hd : (rdat m c).Finds 9 t d)
    (hX : After9 (grid0.coords t)
      (hOf (iblk m c 0 t) (iblk m c 1 t) (iblk m c 2 t) (iblk m c 3 t) (iblk m c 4 t) (iblk m c 5 t) (rowAt (grid0.coords t) 0) 0)
      (hOf (iblk m c 0 t) (iblk m c 1 t) (iblk m c 2 t) (iblk m c 3 t) (iblk m c 4 t) (iblk m c 5 t) (rowAt (grid0.coords t) 1) 1) d X) :
    HDone m c t X := by
  intro y hy
  rw [hX y]
  have h1 := coord1 t
  split
  · next e =>
    obtain ⟨ep, er, ea⟩ := agent_at t 1 (y 1) (by show (y 1).val = 2 * (t.val % 4) + 1; omega)
    unfold hAt; rw [ep, er, ea]
  · next e1 =>
    split
    · next e =>
      obtain ⟨ep, er, ea⟩ := agent_at t 0 (y 1) (by show (y 1).val = 2 * (t.val % 4) + 0; omega)
      unfold hAt; rw [ep, er, ea]
    · next e0 =>
      have h := hDone_prev m c t (by omega) hd y (by show (y 1).val ≤ 2 * ((t.val - 1) % 4) + 1; omega)
      rw [h]
      congr 1
      apply Fin.ext
      show 8 * ((t.val - 1) / 4) + (y 1).val = 8 * (t.val / 4) + (y 1).val
      omega

/-- The body's two stores into the action-value block carry `QDone` one point on. -/
theorem qDone_step (c : Dev nD) (t : Fin cfg0.N) {d X : S256x8x64.Idx → F .f32} (hd : (rdat m c).Finds 8 t d)
    (hX : After8 (grid0.coords t)
      (qOf (iblk m c 0 t) (iblk m c 1 t) (iblk m c 2 t) (iblk m c 3 t) (iblk m c 4 t) (iblk m c 5 t) (iblk m c 6 t) (iblk m c 7 t) (rowAt (grid0.coords t) 0) 0)
      (qOf (iblk m c 0 t) (iblk m c 1 t) (iblk m c 2 t) (iblk m c 3 t) (iblk m c 4 t) (iblk m c 5 t) (iblk m c 6 t) (iblk m c 7 t) (rowAt (grid0.coords t) 1) 1) d X) :
    QDone m c t X := by
  intro y hy
  rw [hX y]
  have h1 := coord1 t
  split
  · next e =>
    obtain ⟨ep, er, ea⟩ := agent_at t 1 (y 1) (by show (y 1).val = 2 * (t.val % 4) + 1; omega)
    unfold qAt; rw [ep, er, ea]
  · next e1 =>
    split
    · next e =>
      obtain ⟨ep, er, ea⟩ := agent_at t 0 (y 1) (by show (y 1).val = 2 * (t.val % 4) + 0; omega)
      unfold qAt; rw [ep, er, ea]
    · next e0 =>
      have h := qDone_prev m c t (by omega) hd y (by show (y 1).val ≤ 2 * ((t.val - 1) % 4) + 1; omega)
      rw [h]
      congr 1
      apply Fin.ext
      show 8 * ((t.val - 1) / 4) + (y 1).val = 8 * (t.val / 4) + (y 1).val
      omega

/-! ## The body obligation -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ Y, ⌜(rdat m c).Finds 8 t Y⌝ ∗ owns (c : Thread nD τ) (ms0_8 t) fullShare Y)
    ∗ (∃ Y, ⌜(rdat m c).Finds 9 t Y⌝ ∗ owns (c : Thread nD τ) (ms0_9 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ (∃ X, ⌜QDone m c t X⌝ ∗ owns (c : Thread nD τ) (ms0_8 t) fullShare X)
    ∗ (∃ X, ⌜HDone m c t X⌝ ∗ owns (c : Thread nD τ) (ms0_9 t) fullShare X))

set_option maxHeartbeats 800000 in
/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, %h8, H8⟩, ⟨%d9, %h9, H9⟩⟩
  iapply (kernelRun c (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) d8 d9 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H0, H1, H2, H3, H4, H5, H6, H7, ⟨%X8, %e8, H8⟩, ⟨%X9, %e9, H9⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iexists X8; isplitr
    · ipureintro; exact qDone_step m c t h8 e8
    iexact H8
  iexists X9; isplitr
  · ipureintro; exact hDone_step m c t h9 e9
  iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation at every point, the outputs held to `Rl`. -/
theorem body_obligation (c : Dev nD) :
    Pipeline.BodyObligationRel (dats (F := F) m 0 c) (defs₀ (F := F)) Variants.none () Set.univ marked (Rl m c) := fun t => by
  rw [bigSep_W0, bigSep_W0, defs₀_row]
  exact triple_restated (sound_body m c t) rfl .rfl fun _ => .rfl

end Cert.KernelIdeal.Hand

end
-- ==== Proof.Hand.Arrays.lean ====
/- The result arrays after the run, and the run itself: every execution of the kernel ends with the ten arguments unchanged,
   the semaphore counters at zero, and the two results at `qAt` (reshaped to 8192x64) and `hAt`. -/
module

public import proofs.«01_k».proof.Proof.Hand.Run

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.Sem
open Idealize.ShloMosaic.ValueIdx

variable {F : FTy → Type} [FloatOps F]

variable (m : (ℓ : Loc nD τ sig) → Buf (Elt F) ℓ) (ρ : Dev nD → PrngReg)

/-- The hidden states of all batch rows and agents. -/
def hArr (c : Dev nD) : S256x32x512.Idx → F .f32 := fun i => hAt m c (i 0) (i 1) (i 2)

/-- The action values of all batch rows and agents. -/
def qArr (c : Dev nD) : S256x32x64.Idx → F .f32 := fun i => qAt m c (i 0) (i 1) (i 2)

/-- The hidden-state window's block at a point is the whole batch, the point's group of eight agents, all entries. -/
theorem index9 : ∀ t : Fin cfg0.N, win0_9.index t = ![0, t.val / 4, 0] := by decide +kernel

/-- The action-value window's block at a point is the whole batch, the point's group of eight agents, all actions. -/
theorem index8 : ∀ t : Fin cfg0.N, win0_8.index t = ![0, t.val / 4, 0] := by decide +kernel

/-- After every write-back the hidden-state array is `hArr`. -/
theorem arr9 (c : Dev nD) {G : Buf (Elt F) ((cfg0.win 9).arr.view.loc (c.tc : Thread nD τ))} (hG : (rdat m c).ArrAt 9 cfg0.N G) :
    G = hArr m c := by
  obtain ⟨X, hX, hA⟩ := hG.exists_exact
  rw [hA (Function.update (fun _ _ _ => Classical.arbitrary _) 9 X) fun u _ _ => by rw [Function.update_self]]
  refine Pipeline.Dat.arrAt_eq_of_covers _ 9 _ (by decide +kernel) fun t hf y => ?_
  have hL : HDone m c t (X t) := (dats m 0 c).toRRel_leaves (fgt := marked) (Rl := Rl m c) (w := 9) rfl (hX t t.isLt hf)
  have h3 := (flush0_9 t).mp hf
  rw [Pipeline.RDat.withAfter_after, Function.update_self]
  have hy : (y 1).val < 8 := (y 1).isLt
  refine (hL y (by omega)).trans ?_
  show hAt m c (y 0) (agentAt t (y 1)) (y 2) = hAt m c (((cfg0.win 9).blk t).view.emb y 0) (((cfg0.win 9).blk t).view.emb y 1) (((cfg0.win 9).blk t).view.emb y 2)
  have e := index9 t
  congr 1
  · apply Fin.ext; blk_simp [e]
  · apply Fin.ext; blk_simp [e]; show 8 * (t.val / 4) + (y 1).val = t.val / 4 * 8 + (y 1).val; omega
  · apply Fin.ext; blk_simp [e]

/-- After every write-back the action-value array is `qArr`. -/
theorem arr8 (c : Dev nD) {G : Buf (Elt F) ((cfg0.win 8).arr.view.loc (c.tc : Thread nD τ))} (hG : (rdat m c).ArrAt 8 cfg0.N G) :
    G = qArr m c := by
  obtain ⟨X, hX, hA⟩ := hG.exists_exact
  rw [hA (Function.update (fun _ _ _ => Classical.arbitrary _) 8 X) fun u _ _ => by rw [Function.update_self]]
  refine Pipeline.Dat.arrAt_eq_of_covers _ 8 _ (by decide +kernel) fun t hf y => ?_
  have hL : QDone m c t (X t) := (dats m 0 c).toRRel_leaves (fgt := marked) (Rl := Rl m c) (w := 8) rfl (hX t t.isLt hf)
  have h3 := (flush0_8 t).mp hf
  rw [Pipeline.RDat.withAfter_after, Function.update_self]
  have hy : (y 1).val < 8 := (y 1).isLt
  refine (hL y (by omega)).trans ?_
  show qAt m c (y 0) (agentAt t (y 1)) (y 2) = qAt m c (((cfg0.win 8).blk t).view.emb y 0) (((cfg0.win 8).blk t).view.emb y 1) (((cfg0.win 8).blk t).view.emb y 2)
  have e := index8 t
  congr 1
  · apply Fin.ext; blk_simp [e]
  · apply Fin.ext; blk_simp [e]; show 8 * (t.val / 4) + (y 1).val = t.val / 4 * 8 + (y 1).val; omega
  · apply Fin.ext; blk_simp [e]

/-- An input window's array ends as the region finds it. -/
theorem arr_in (c : Dev nD) (w : Fin cfg0.W) (hw : (cfg0.win w).isOut = false) {G : Buf (Elt F) ((cfg0.win w).arr.view.loc (c.tc : Thread nD τ))}
    (hG : (rdat m c).ArrAt w cfg0.N G) : G = V m c (Pipeline.arrRef spec0 w) :=
  ((congrFun ((rdat m c).ArrAt_in w hw cfg0.N) G).mp hG).trans (A_eq m c w)

/-- A buffer that no window stages and the line after the region does not write is as the region found it. -/
theorem kept_of (c : Dev nD) (A : (w : Fin cfg0.W) → Buf (Elt F) ((cfg0.win w).arr.view.loc (c.tc : Thread nD τ))) (b : Ref sig .tc)
    (hb : b ≠ main_v6) (hw : ∀ w, Pipeline.arrRef spec0 w ≠ b) :
    StableHlo.after [hostOps1].flatten (Pipeline.withArrays cfg0.spec c (V0 m c) A) (Proc.devRef .tc b) = V m c b := by
  rw [StableHlo.after_of_forall_not_mem (b := Proc.devRef .tc b) _ _ (List.forall_iff_forall_mem.mp (by
      simp only [hostOps1, List.flatten_cons, List.flatten_nil, List.append_nil, List.cons_append, List.nil_append, List.Forall,
        StableHlo.reshape_writes, Finset.mem_singleton]
      exact StableHlo.devRef_ne_of_ne hb)),
    Pipeline.withArrays_of_ne _ c (V0 m c) _ b hw]

/-- The line after the region reshapes the action values to one row per batch row and agent. -/
theorem line_v6 (c : Dev nD) (A : (w : Fin cfg0.W) → Buf (Elt F) ((cfg0.win w).arr.view.loc (c.tc : Thread nD τ))) :
    StableHlo.after [hostOps1].flatten (Pipeline.withArrays cfg0.spec c (V0 m c) A) (Proc.devRef .tc main_v6)
      = shapeCast S8192x64 (A 8 : S256x32x64.Idx → F .f32) shapeCasts_S256x32x64_S8192x64 := by
  simp only [hostOps1, List.flatten_cons, List.flatten_nil, List.append_nil, List.cons_append, List.nil_append,
    StableHlo.after_cons, StableHlo.after_nil]
  rw [StableHlo.reshape_result]
  rw [show Pipeline.withArrays cfg0.spec c (V0 m c) A (Proc.devRef .tc main_v5_0) = A 8 from
    Pipeline.withArrays_arr cfg0.spec launch0.win.arr_inj c (V0 m c) A 8]
  rfl

/-- What the run leaves on every core: the two results, and the arguments as they were. -/
def Results (r : PUnit × MemSt nD τ sig (Elt F)) : Prop :=
  ∀ c : Dev nD,
    r.2.mem ((c.tc : Thread nD τ).loc main_v6) = shapeCast S8192x64 (qArr m c) shapeCasts_S256x32x64_S8192x64
      ∧ r.2.mem ((c.tc : Thread nD τ).loc main_v5_1) = hArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)

/-- The line after the region does not write `main_arg0`. -/
theorem kept_main_arg0 (c : Dev nD) (A : (w : Fin cfg0.W) → Buf (Elt F) ((cfg0.win w).arr.view.loc (c.tc : Thread nD τ))) :
    StableHlo.after [hostOps1].flatten (Pipeline.withArrays cfg0.spec c (V0 m c) A) (Proc.devRef .tc main_arg0) = V m c main_arg0 :=
  kept_of m c A main_arg0 (by decide) (by exact (by decide : ∀ w, Pipeline.arrRef spec0 w ≠ main_arg0))

/-- The line after the region does not write `main_arg1`. -/
theorem kept_main_arg1 (c : Dev nD) (A : (w : Fin cfg0.W) → Buf (Elt F) ((cfg0.win w).arr.view.loc (c.tc : Thread nD τ))) :
    StableHlo.after [hostOps1].flatten (Pipeline.withArrays cfg0.spec c (V0 m c) A) (Proc.devRef .tc main_arg1) = V m c main_arg1 :=
  kept_of m c A main_arg1 (by decide) (by exact (by decide : ∀ w, Pipeline.arrRef spec0 w ≠ main_arg1))

/-- The line after the region does not write `main_arg3`. -/
theorem kept_main_arg3 (c : Dev nD) (A : (w : Fin cfg0.W) → Buf (Elt F) ((cfg0.win w).arr.view.loc (c.tc : Thread nD τ))) :
    StableHlo.after [hostOps1].flatten (Pipeline.withArrays cfg0.spec c (V0 m c) A) (Proc.devRef .tc main_arg3) = V m c main_arg3 :=
  kept_of m c A main_arg3 (by decide) (by exact (by decide : ∀ w, Pipeline.arrRef spec0 w ≠ main_arg3))

/-- The line after the region does not write `main_arg5`. -/
theorem kept_main_arg5 (c : Dev nD) (A : (w : Fin cfg0.W) → Buf (Elt F) ((cfg0.win w).arr.view.loc (c.tc : Thread nD τ))) :
    StableHlo.after [hostOps1].flatten (Pipeline.withArrays cfg0.spec c (V0 m c) A) (Proc.devRef .tc main_arg5) = V m c main_arg5 :=
  kept_of m c A main_arg5 (by decide) (by exact (by decide : ∀ w, Pipeline.arrRef spec0 w ≠ main_arg5))

/-- The line after the region does not write `main_arg6`. -/
theorem kept_main_arg6 (c : Dev nD) (A : (w : Fin cfg0.W) → Buf (Elt F) ((cfg0.win w).arr.view.loc (c.tc : Thread nD τ))) :
    StableHlo.after [hostOps1].flatten (Pipeline.withArrays cfg0.spec c (V0 m c) A) (Proc.devRef .tc main_arg6) = V m c main_arg6 :=
  kept_of m c A main_arg6 (by decide) (by exact (by decide : ∀ w, Pipeline.arrRef spec0 w ≠ main_arg6))

/-- The line after the region does not write `main_arg7`. -/
theorem kept_main_arg7 (c : Dev nD) (A : (w : Fin cfg0.W) → Buf (Elt F) ((cfg0.win w).arr.view.loc (c.tc : Thread nD τ))) :
    StableHlo.after [hostOps1].flatten (Pipeline.withArrays cfg0.spec c (V0 m c) A) (Proc.devRef .tc main_arg7) = V m c main_arg7 :=
  kept_of m c A main_arg7 (by decide) (by exact (by decide : ∀ w, Pipeline.arrRef spec0 w ≠ main_arg7))

/-- The line after the region does not write `main_arg9`. -/
theorem kept_main_arg9 (c : Dev nD) (A : (w : Fin cfg0.W) → Buf (Elt F) ((cfg0.win w).arr.view.loc (c.tc : Thread nD τ))) :
    StableHlo.after [hostOps1].flatten (Pipeline.withArrays cfg0.spec c (V0 m c) A) (Proc.devRef .tc main_arg9) = V m c main_arg9 :=
  kept_of m c A main_arg9 (by decide) (by exact (by decide : ∀ w, Pipeline.arrRef spec0 w ≠ main_arg9))

set_option backward.isDefEq.respectTransparency.types false in
set_option maxHeartbeats 800000 in
/-- The run before it is read: every array at some contents its write-backs allow, and every other buffer at what the line
    after the region computes. -/
theorem run_arrays : θ_run defs (onTc (τ := τ) (main (F := F))) (s₀ m ρ)
    (fun r => (∀ c : Dev nD,
        (∀ w, (rdat m c).ArrAt w cfg0.N (r.2.mem ((cfg0.win w).arr.view.loc (c.tc : Thread nD τ))))
        ∧ ∃ A : (w : Fin cfg0.W) → Buf (Elt F) ((cfg0.win w).arr.view.loc (c.tc : Thread nD τ)),
            (∀ w, (rdat m c).ArrAt w cfg0.N (A w))
            ∧ ∀ b ∈ Pipeline.restRefs sig cfg0.spec, r.2.mem ((c.tc : Thread nD τ).loc b)
                = StableHlo.after [hostOps1].flatten (Pipeline.withArrays cfg0.spec c (V0 m c) A) (Proc.devRef .tc b))
      ∧ r.2.sem = fun _ => 0) :=
  run_lines cfgs (0 : Fin 1) launch0 defs₀ Variants.none (rdat m) m ρ main
    (hbody := fun c => (body_obligation m c).toRRel) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- Every execution of the kernel ends as `Results` says, every semaphore counter at zero. -/
theorem run : θ_run defs (onTc (τ := τ) (main (F := F))) ⟨m, fun _ => 0, ρ⟩ (fun r => Results m r ∧ r.2.sem = fun _ => 0) := by
  refine (θ_run defs _ _).mono (fun r hr => ⟨fun c => ?_, hr.2⟩) (run_arrays m ρ)
  have h := hr.1 c
  obtain ⟨A, hA, hb⟩ := h.2
  exact ⟨((hb main_v6 (Pipeline.mem_restRefs_of main_v6 (by decide) (by decide))).trans (line_v6 m c A)).trans
      (by rw [show A 8 = qArr m c from arr8 m c (hA 8)]),
    arr9 m c (h.1 9),
    ((hb main_arg0 (Pipeline.mem_restRefs_of main_arg0 (by decide) (by decide))).trans (kept_main_arg0 m c A)).trans (V_main_arg0 m c),
    ((hb main_arg1 (Pipeline.mem_restRefs_of main_arg1 (by decide) (by decide))).trans (kept_main_arg1 m c A)).trans (V_main_arg1 m c),
    (arr_in m c 1 rfl (h.1 1)).trans (V_main_arg2 m c),
    ((hb main_arg3 (Pipeline.mem_restRefs_of main_arg3 (by decide) (by decide))).trans (kept_main_arg3 m c A)).trans (V_main_arg3 m c),
    (arr_in m c 3 rfl (h.1 3)).trans (V_main_arg4 m c),
    ((hb main_arg5 (Pipeline.mem_restRefs_of main_arg5 (by decide) (by decide))).trans (kept_main_arg5 m c A)).trans (V_main_arg5 m c),
    ((hb main_arg6 (Pipeline.mem_restRefs_of main_arg6 (by decide) (by decide))).trans (kept_main_arg6 m c A)).trans (V_main_arg6 m c),
    ((hb main_arg7 (Pipeline.mem_restRefs_of main_arg7 (by decide) (by decide))).trans (kept_main_arg7 m c A)).trans (V_main_arg7 m c),
    (arr_in m c 6 rfl (h.1 6)).trans (V_main_arg8 m c),
    ((hb main_arg9 (Pipeline.mem_restRefs_of main_arg9 (by decide) (by decide))).trans (kept_main_arg9 m c A)).trans (V_main_arg9 m c)⟩

end Cert.KernelIdeal.Hand

end
-- ==== Proof.Hand.Spec.lean ====
module

public import Idealize.ShloMosaic.PureOps.Ideal
public import Idealize.ShloMosaic.Lib.Pointwise
public import Mathlib.Algebra.BigOperators.Fin

@[expose] public section

noncomputable section

/-! # One agent's step on one batch row, as plain formulas over the extended reals

An agent's weights are a first matrix with its bias, the input gates' matrix with its bias, the
hidden gates' bias, and the last matrix with its bias. The hidden state that enters is zero, so of
the hidden gates only their bias is left. -/

namespace Cert.Spec

open Idealize.ShloMosaic

/-- Where reset-gate column `n` stands among the 1536 gate columns. -/
def col0 (n : Fin 512) : Fin 1536 := ⟨n.val, by omega⟩
/-- Where update-gate column `n` stands among the 1536 gate columns. -/
def col1 (n : Fin 512) : Fin 1536 := ⟨512 + n.val, by omega⟩
/-- Where candidate column `n` stands among the 1536 gate columns. -/
def col2 (n : Fin 512) : Fin 1536 := ⟨1024 + n.val, by omega⟩

/-- The first layer's output `d`, after the relu. -/
def fc1 (x : Fin 512 → EReal) (w : Fin 512 → Fin 512 → EReal) (b : Fin 512 → EReal) (d : Fin 512) : EReal :=
  max ((∑ k, x k * w d k) + b d) 0

/-- The input gates' column `g`. -/
def gate (x : Fin 512 → EReal) (w : Fin 512 → Fin 512 → EReal) (b : Fin 512 → EReal)
    (wi : Fin 1536 → Fin 512 → EReal) (bi : Fin 1536 → EReal) (g : Fin 1536) : EReal :=
  (∑ d, fc1 x w b d * wi g d) + bi g

/-- The new hidden state's entry `n`, from the input gates and the hidden gates' bias. -/
def cell (gi bh : Fin 1536 → EReal) (n : Fin 512) : EReal :=
  (1 - Ideal.logistic (gi (col1 n) + bh (col1 n)))
    * Ideal.tanh (gi (col2 n) + Ideal.logistic (gi (col0 n) + bh (col0 n)) * bh (col2 n))

/-- The action value `a`, from the new hidden state. -/
def value (h : Fin 512 → EReal) (w : Fin 64 → Fin 512 → EReal) (b : Fin 64 → EReal) (a : Fin 64) : EReal :=
  (∑ n, h n * w a n) + b a

/-! ## The whole arrays -/

/-- The input's row that holds batch row `b` of agent `s`. -/
def row (b : Fin 256) (s : Fin 32) : Fin 8192 := ⟨b.val * 32 + s.val, by omega⟩

/-- The input gates of agent `s` on batch row `b`, from the whole arrays. -/
def gates (x0 : (⟨2, ![8192, 512]⟩ : Shape).Idx → EReal) (x2 : (⟨3, ![32, 512, 512]⟩ : Shape).Idx → EReal)
    (x3 : (⟨2, ![32, 512]⟩ : Shape).Idx → EReal) (x4 : (⟨3, ![32, 1536, 512]⟩ : Shape).Idx → EReal)
    (x5 : (⟨2, ![32, 1536]⟩ : Shape).Idx → EReal) (b : Fin 256) (s : Fin 32) : Fin 1536 → EReal :=
  gate (fun k => x0 (ix2 (row b s) k)) (fun d k => x2 (ix3 s d k)) (fun d => x3 (ix2 s d))
    (fun g d => x4 (ix3 s g d)) (fun g => x5 (ix2 s g))

/-- The new hidden state of agent `s` on batch row `b`, from the whole arrays. -/
def hidden (x0 : (⟨2, ![8192, 512]⟩ : Shape).Idx → EReal) (x2 : (⟨3, ![32, 512, 512]⟩ : Shape).Idx → EReal)
    (x3 : (⟨2, ![32, 512]⟩ : Shape).Idx → EReal) (x4 : (⟨3, ![32, 1536, 512]⟩ : Shape).Idx → EReal)
    (x5 x7 : (⟨2, ![32, 1536]⟩ : Shape).Idx → EReal) (b : Fin 256) (s : Fin 32) : Fin 512 → EReal :=
  cell (gates x0 x2 x3 x4 x5 b s) (fun g => x7 (ix2 s g))

/-- The action values of agent `s` on batch row `b`, from the whole arrays. -/
def values (x0 : (⟨2, ![8192, 512]⟩ : Shape).Idx → EReal) (x2 : (⟨3, ![32, 512, 512]⟩ : Shape).Idx → EReal)
    (x3 : (⟨2, ![32, 512]⟩ : Shape).Idx → EReal) (x4 : (⟨3, ![32, 1536, 512]⟩ : Shape).Idx → EReal)
    (x5 x7 : (⟨2, ![32, 1536]⟩ : Shape).Idx → EReal) (x8 : (⟨3, ![32, 64, 512]⟩ : Shape).Idx → EReal)
    (x9 : (⟨2, ![32, 64]⟩ : Shape).Idx → EReal) (b : Fin 256) (s : Fin 32) : Fin 64 → EReal :=
  value (hidden x0 x2 x3 x4 x5 x7 b s) (fun a n => x8 (ix3 s a n)) (fun a => x9 (ix2 s a))

end Cert.Spec
-- ==== Proof.Hand.Ref.lean ====
module

public import proofs.«01_k».proof.Proof.Gen.ReferenceIdeal.Run
public import proofs.«01_k».proof.Proof.Gen.ReferenceIdeal.Read
public import proofs.«01_k».proof.Proof.Hand.Spec
public import Idealize.ShloMosaic.Lib.IdealHost

@[expose] public section

set_option maxRecDepth 16384

noncomputable section

/-! # What the reference computes, entry by entry

The reference multiplies each weight matrix from the left, so its products stand the other way
round than in `Spec`. With the entering hidden state at zero its second product vanishes. -/

namespace Cert.ReferenceIdeal.Hand

open Cert.ReferenceIdeal Cert.ReferenceIdeal.Gen Cert.ReferenceIdeal.Read Cert.Spec
open Idealize.ShloMosaic Idealize.ShloMosaic.TcCoe Idealize.SL.Sem

variable (x0 : (⟨S8192x512, .f32⟩ : BufTy).Contents (Elt Ideal))
variable (x1 : (⟨S256x32x512, .f32⟩ : BufTy).Contents (Elt Ideal))
variable (x2 : (⟨S32x512x512, .f32⟩ : BufTy).Contents (Elt Ideal))
variable (x3 : (⟨S32x512, .f32⟩ : BufTy).Contents (Elt Ideal))
variable (x4 : (⟨S32x1536x512, .f32⟩ : BufTy).Contents (Elt Ideal))
variable (x5 : (⟨S32x1536, .f32⟩ : BufTy).Contents (Elt Ideal))
variable (x6 : (⟨S32x1536x512, .f32⟩ : BufTy).Contents (Elt Ideal))
variable (x7 : (⟨S32x1536, .f32⟩ : BufTy).Contents (Elt Ideal))
variable (x8 : (⟨S32x64x512, .f32⟩ : BufTy).Contents (Elt Ideal))
variable (x9 : (⟨S32x64, .f32⟩ : BufTy).Contents (Elt Ideal))

/-- The first layer, after the relu. -/
theorem v6_at (b : Fin 256) (s : Fin 32) (d : Fin 512) :
    val_main_v6 (F := Ideal) x0 x2 x3 (ix3 b s d)
      = fc1 (fun k => x0 (ix2 (row b s) k)) (fun d k => x2 (ix3 s d k)) (fun d => x3 (ix2 s d)) d := by
  have e0 (k : Fin 512) : idx_main_v0 (ridx_main_v1 (idx_main_v2 (ix3 b s d)) k) = ix2 (row b s) k := by
    funext a
    match a with
    | ⟨0, _⟩ => exact Fin.ext (by show ((b.val * 32 + s.val) * 512 + k.val) / 512 = b.val * 32 + s.val; omega)
    | ⟨1, _⟩ => exact Fin.ext (by show ((b.val * 32 + s.val) * 512 + k.val) % 512 = k.val; omega)
  have e1 (k : Fin 512) : lidx_main_v1 (idx_main_v2 (ix3 b s d)) k = ix3 s d k := by
    funext a
    match a with
    | ⟨0, _⟩ => rfl
    | ⟨1, _⟩ => rfl
    | ⟨2, _⟩ => rfl
  have e2 : idx_main_v3 (idx_main_v4 (ix3 b s d)) = ix2 s d := by
    funext a
    match a with
    | ⟨0, _⟩ => rfl
    | ⟨1, _⟩ => rfl
  rw [val_main_v6_apply, val_main_v5_apply, val_main_v2_apply, val_main_v1_apply, val_main_v4_apply, val_main_v3_apply,
    val_main_call0_v0_apply, val_main_call0_cst_apply, e2]
  simp only [val_main_v0_apply, e0, e1]
  show max ((∑ k, x2 (ix3 s d k) * x0 (ix2 (row b s) k)) + x3 (ix2 s d)) (Ideal.ofBits .f32 0x00000000#32) = _
  rw [Ideal.ofBits_zero_f32]
  unfold fc1
  simp only [mul_comm]

/-- The input gates. -/
theorem v11_at (b : Fin 256) (s : Fin 32) (g : Fin 1536) :
    val_main_v11 (F := Ideal) x0 x2 x3 x4 x5 (ix3 b s g) = gates x0 x2 x3 x4 x5 b s g := by
  have e0 (k : Fin 512) : ridx_main_v7 (idx_main_v8 (ix3 b s g)) k = ix3 b s k := by
    funext a
    match a with
    | ⟨0, _⟩ => rfl
    | ⟨1, _⟩ => rfl
    | ⟨2, _⟩ => rfl
  have e1 (k : Fin 512) : lidx_main_v7 (idx_main_v8 (ix3 b s g)) k = ix3 s g k := by
    funext a
    match a with
    | ⟨0, _⟩ => rfl
    | ⟨1, _⟩ => rfl
    | ⟨2, _⟩ => rfl
  have e2 : idx_main_v9 (idx_main_v10 (ix3 b s g)) = ix2 s g := by
    funext a
    match a with
    | ⟨0, _⟩ => rfl
    | ⟨1, _⟩ => rfl
  rw [val_main_v11_apply, val_main_v8_apply, val_main_v7_apply, val_main_v10_apply, val_main_v9_apply, e2]
  simp only [e0, e1, v6_at]
  show (∑ k, x4 (ix3 s g k) * _) + x5 (ix2 s g) = _
  unfold gates gate
  simp only [mul_comm]

/-- The hidden gates are their bias when the entering hidden state is zero. -/
theorem v16_at (hz : ∀ i, x1 i = 0) (b : Fin 256) (s : Fin 32) (g : Fin 1536) :
    val_main_v16 (F := Ideal) x1 x6 x7 (ix3 b s g) = x7 (ix2 s g) := by
  have e2 : idx_main_v14 (idx_main_v15 (ix3 b s g)) = ix2 s g := by
    funext a
    match a with
    | ⟨0, _⟩ => rfl
    | ⟨1, _⟩ => rfl
  rw [val_main_v16_apply, val_main_v13_apply, val_main_v12_apply, val_main_v15_apply, val_main_v14_apply, e2]
  simp only [hz]
  show (∑ k : Fin 512, x6 _ * (0 : EReal)) + x7 (ix2 s g) = _
  simp only [mul_zero, Finset.sum_const_zero, zero_add]

/-- The new hidden state. -/
theorem v44_at (hz : ∀ i, x1 i = 0) (b : Fin 256) (s : Fin 32) (n : Fin 512) :
    val_main_v44 (F := Ideal) x0 x1 x2 x3 x4 x5 x6 x7 (ix3 b s n) = hidden x0 x2 x3 x4 x5 x7 b s n := by
  have c (z : Fin 1536) (j : S256x32x1536.Idx) (h0 : j 0 = b) (h1 : j 1 = s) (h2 : (j 2).val = z.val) : j = ix3 b s z := by
    funext a
    match a with
    | ⟨0, _⟩ => exact h0
    | ⟨1, _⟩ => exact h1
    | ⟨2, _⟩ => exact Fin.ext h2
  have e17 : idx_main_v17 (ix3 b s n) = ix3 b s (col0 n) := c _ _ rfl rfl rfl
  have e18 : idx_main_v18 (ix3 b s n) = ix3 b s (col1 n) := c _ _ rfl rfl rfl
  have e19 : idx_main_v19 (ix3 b s n) = ix3 b s (col2 n) := c _ _ rfl rfl rfl
  have e20 : idx_main_v20 (ix3 b s n) = ix3 b s (col0 n) := c _ _ rfl rfl rfl
  have e21 : idx_main_v21 (ix3 b s n) = ix3 b s (col1 n) := c _ _ rfl rfl rfl
  have e22 : idx_main_v22 (ix3 b s n) = ix3 b s (col2 n) := c _ _ rfl rfl rfl
  simp only [val_main_v44_apply, val_main_v43_apply, val_main_v42_apply, val_main_v41_apply, val_main_v40_apply,
    val_main_v39_apply, val_main_v38_apply, val_main_v37_apply, val_main_v36_apply, val_main_v35_apply, val_main_v34_apply,
    val_main_v33_apply, val_main_v32_apply, val_main_v31_apply, val_main_v30_apply, val_main_v29_apply, val_main_v28_apply,
    val_main_v27_apply, val_main_v26_apply, val_main_v25_apply, val_main_v24_apply, val_main_v23_apply, val_main_v22_apply,
    val_main_v21_apply, val_main_v20_apply, val_main_v19_apply, val_main_v18_apply, val_main_v17_apply,
    val_main_cst_apply, val_main_cst_0_apply, val_main_cst_1_apply, val_main_cst_2_apply, val_main_cst_3_apply,
    e17, e18, e19, e20, e21, e22, v11_at, v16_at x1 x6 x7 hz, hz]
  have one : FloatOps.ofBits (F := Ideal) .f32 0x3F800000#32 = (1 : EReal) := Ideal.ofBits_one_f32
  rw [one]
  show (1 - Ideal.logistic _) * Ideal.tanh (_ + Ideal.logistic _ * _) + Ideal.logistic _ * (0 : EReal) = _
  rw [mul_zero, add_zero]
  rfl

/-- The action values, before the last reshape. -/
theorem v49_at (hz : ∀ i, x1 i = 0) (b : Fin 256) (s : Fin 32) (n : Fin 64) :
    val_main_v49 (F := Ideal) x0 x1 x2 x3 x4 x5 x6 x7 x8 x9 (ix3 b s n) = values x0 x2 x3 x4 x5 x7 x8 x9 b s n := by
  have e0 (k : Fin 512) : ridx_main_v45 (idx_main_v46 (ix3 b s n)) k = ix3 b s k := by
    funext a
    match a with
    | ⟨0, _⟩ => rfl
    | ⟨1, _⟩ => rfl
    | ⟨2, _⟩ => rfl
  have e1 (k : Fin 512) : lidx_main_v45 (idx_main_v46 (ix3 b s n)) k = ix3 s n k := by
    funext a
    match a with
    | ⟨0, _⟩ => rfl
    | ⟨1, _⟩ => rfl
    | ⟨2, _⟩ => rfl
  have e2 : idx_main_v47 (idx_main_v48 (ix3 b s n)) = ix2 s n := by
    funext a
    match a with
    | ⟨0, _⟩ => rfl
    | ⟨1, _⟩ => rfl
  rw [val_main_v49_apply, val_main_v46_apply, val_main_v45_apply, val_main_v48_apply, val_main_v47_apply, e2]
  simp only [e0, e1, v44_at x0 x1 x2 x3 x4 x5 x6 x7 hz]
  show (∑ k, x8 (ix3 s n k) * _) + x9 (ix2 s n) = _
  unfold values value
  simp only [mul_comm]

end Cert.ReferenceIdeal.Hand
-- ==== Proof.Hand.Payloads.lean ====
module

public import proofs.«01_k».proof.Proof.Gen.KernelIdeal.Skeleton
public import proofs.«01_k».proof.Proof.Hand.Spec
public import Idealize.ShloMosaic.Lib.Pointwise

@[expose] public section

set_option maxRecDepth 16384

noncomputable section

/-! # What the kernel's agent step computes, entry by entry -/

namespace Cert.KernelIdeal.Hand

open Cert.KernelIdeal Cert.KernelIdeal.Gen Cert.Spec
open Idealize.ShloMosaic Idealize.ShloMosaic.TcCoe

/-- The input gates the step computes are `gate` of the agent's row and weights. -/
theorem pay2_at (v3 : Vec Ideal S256x1x512 .f32) (v5 : Vec Ideal S1x512x512 .f32) (v8 : Vec Ideal S1x1x512 .f32)
    (v14 : Vec Ideal S1x1536x512 .f32) (v17 : Vec Ideal S1x1x1536 .f32) (b : Fin 256) (g : Fin 1536) :
    k0_pay2 v3 v5 v8 v14 v17 (ix2 b g)
      = gate (fun k => v3 (ix3 b 0 k)) (fun d k => v5 (ix3 0 d k)) (fun d => v8 (ix3 0 0 d))
          (fun g d => v14 (ix3 0 g d)) (fun g => v17 (ix3 0 0 g)) g := by
  pointwise [k0_pay2, gate, fc1]

/-- The reset gate is the logistic of the input gate plus the hidden bias, at the first 512 columns. -/
theorem pay4_at (v3 : Vec Ideal S256x1x512 .f32) (v5 : Vec Ideal S1x512x512 .f32) (v8 : Vec Ideal S1x1x512 .f32)
    (v14 : Vec Ideal S1x1536x512 .f32) (v17 v21 : Vec Ideal S1x1x1536 .f32) (b : Fin 256) (n : Fin 512) :
    k0_pay4 v3 v5 v8 v14 v17 v21 (ix2 b n)
      = Ideal.logistic (k0_pay2 v3 v5 v8 v14 v17 (ix2 b (col0 n)) + v21 (ix3 0 0 (col0 n))) := by
  pointwise [k0_pay4, k0_pay3, col0]

/-- The update gate is the logistic of the input gate plus the hidden bias, at the second 512 columns. -/
theorem pay5_at (v3 : Vec Ideal S256x1x512 .f32) (v5 : Vec Ideal S1x512x512 .f32) (v8 : Vec Ideal S1x1x512 .f32)
    (v14 : Vec Ideal S1x1536x512 .f32) (v17 v21 : Vec Ideal S1x1x1536 .f32) (b : Fin 256) (n : Fin 512) :
    k0_pay5 v3 v5 v8 v14 v17 v21 (ix2 b n)
      = Ideal.logistic (k0_pay2 v3 v5 v8 v14 v17 (ix2 b (col1 n)) + v21 (ix3 0 0 (col1 n))) := by
  pointwise [k0_pay5, k0_pay3, col1]

/-- The candidate's input part is the last 512 columns of the input gates. -/
theorem pay6_at (v3 : Vec Ideal S256x1x512 .f32) (v5 : Vec Ideal S1x512x512 .f32) (v8 : Vec Ideal S1x1x512 .f32)
    (v14 : Vec Ideal S1x1536x512 .f32) (v17 : Vec Ideal S1x1x1536 .f32) (b : Fin 256) (n : Fin 512) :
    k0_pay6 v3 v5 v8 v14 v17 (ix2 b n) = k0_pay2 v3 v5 v8 v14 v17 (ix2 b (col2 n)) := by
  pointwise [k0_pay6, col2]

/-- The candidate's hidden part is the last 512 entries of the hidden bias, the same on every batch row. -/
theorem pay7_at (v21 : Vec Ideal S1x1x1536 .f32) (b : Fin 256) (n : Fin 512) :
    k0_pay7 v21 (ix2 b n) = v21 (ix3 0 0 (col2 n)) := by
  pointwise [k0_pay7, k0_pay3, col2]

/-- The new hidden state is one minus the update gate, times the hyperbolic tangent of the candidate. -/
theorem pay8_at (r z i h : FVec Ideal S256x512 .f32) (y : S256x512.Idx) :
    k0_pay8 r z i h y = (1 - z y) * Ideal.tanh (i y + r y * h y) := by
  pointwise [k0_pay8]

/-- The block stored for the hidden state is the new hidden state, with an axis of one agent. -/
theorem pay9_at (r z i h : FVec Ideal S256x512 .f32) (b : Fin 256) (n : Fin 512) :
    k0_pay9 r z i h (ix3 b 0 n) = k0_pay8 r z i h (ix2 b n) := by
  pointwise [k0_pay9]

/-- The block stored for the action values is the last layer applied to the new hidden state. -/
theorem pay10_at (r z i h : FVec Ideal S256x512 .f32) (v46 : Vec Ideal S1x64x512 .f32) (v49 : Vec Ideal S1x1x64 .f32)
    (b : Fin 256) (a : Fin 64) :
    k0_pay10 r z i h v46 v49 (ix3 b 0 a)
      = value (fun n => k0_pay8 r z i h (ix2 b n)) (fun a n => v46 (ix3 0 a n)) (fun a => v49 (ix3 0 0 a)) a := by
  pointwise [k0_pay10, value]

end Cert.KernelIdeal.Hand
-- ==== Proof.Hand.Values.lean ====
module

public import proofs.«01_k».proof.Proof.Hand.Arrays
public import proofs.«01_k».proof.Proof.Hand.Payloads
public import Idealize.ShloMosaic.Lib.Claim

@[expose] public section

set_option maxRecDepth 16384

noncomputable section

/-! # What the kernel's two arrays hold, from its arguments -/

namespace Cert.KernelIdeal.Hand

open Cert.KernelIdeal Cert.KernelIdeal.Gen Cert.Spec
open Idealize.ShloMosaic Idealize.ShloMosaic.TcCoe Idealize.SL.Sem

/-! ## Where each block of a grid point lies -/

/-- The input block at the grid point `t` is that of the group `t / 4` of eight agents. -/
theorem index0 : ∀ t : Fin cfg0.N, win0_0.index t = ![0, t.val / 4, 0] := by decide +kernel
/-- The block of the first matrices at the grid point `t` is that of the pair `t` of agents. -/
theorem index1 : ∀ t : Fin cfg0.N, win0_1.index t = ![t.val, 0, 0] := by decide +kernel
/-- The block of the first biases at the grid point `t` is that of the pair `t` of agents. -/
theorem index2 : ∀ t : Fin cfg0.N, win0_2.index t = ![t.val, 0, 0] := by decide +kernel
/-- The block of the input gates' matrices at the grid point `t` is that of the pair `t` of agents. -/
theorem index3 : ∀ t : Fin cfg0.N, win0_3.index t = ![t.val, 0, 0] := by decide +kernel
/-- The block of the input gates' biases at the grid point `t` is that of the pair `t` of agents. -/
theorem index4 : ∀ t : Fin cfg0.N, win0_4.index t = ![t.val, 0, 0] := by decide +kernel
/-- The block of the hidden gates' biases at the grid point `t` is that of the pair `t` of agents. -/
theorem index5 : ∀ t : Fin cfg0.N, win0_5.index t = ![t.val, 0, 0] := by decide +kernel
/-- The block of the last matrices at the grid point `t` is that of the pair `t` of agents. -/
theorem index6 : ∀ t : Fin cfg0.N, win0_6.index t = ![t.val, 0, 0] := by decide +kernel
/-- The block of the last biases at the grid point `t` is that of the pair `t` of agents. -/
theorem index7 : ∀ t : Fin cfg0.N, win0_7.index t = ![t.val, 0, 0] := by decide +kernel

variable (m : (ℓ : Loc nD τ sig) → Buf (Elt Ideal) ℓ) (c : Dev nD)

/-- Agent `s` is the `s % 2`-th of the pair at the grid point `s / 2`. -/
theorem pair_eq (s : Fin 32) : (ptOf s).val * 2 + (inPair s).val = s.val := by
  show s.val / 2 * 2 + s.val % 2 = s.val
  omega

/-! ## What the arrays hold when the kernel starts -/

/-- The input is laid out by batch row and agent. -/
theorem entry0 : V m c main_v0 = shapeCast S256x32x512 (m ((c.tc : Thread nD τ).loc main_arg0)) shapeCasts_S8192x512_S256x32x512 := by
  unfold V V0
  simp only [hostOps0, List.flatten_cons, List.flatten_nil, List.append_nil]
  after_results
  rfl

/-- The first bias has a row of its own for each agent. -/
theorem entry2 : V m c main_v1 = shapeCast S32x1x512 (m ((c.tc : Thread nD τ).loc main_arg3)) shapeCasts_S32x512_S32x1x512 := by
  unfold V V0
  simp only [hostOps0, List.flatten_cons, List.flatten_nil, List.append_nil]
  after_results
  rfl

/-- The input gates' bias has a row of its own for each agent. -/
theorem entry4 : V m c main_v2 = shapeCast S32x1x1536 (m ((c.tc : Thread nD τ).loc main_arg5)) shapeCasts_S32x1536_S32x1x1536 := by
  unfold V V0
  simp only [hostOps0, List.flatten_cons, List.flatten_nil, List.append_nil]
  after_results
  rfl

/-- The hidden gates' bias has a row of its own for each agent. -/
theorem entry5 : V m c main_v3 = shapeCast S32x1x1536 (m ((c.tc : Thread nD τ).loc main_arg7)) shapeCasts_S32x1536_S32x1x1536 := by
  unfold V V0
  simp only [hostOps0, List.flatten_cons, List.flatten_nil, List.append_nil]
  after_results
  rfl

/-- The last bias has a row of its own for each agent. -/
theorem entry7 : V m c main_v4 = shapeCast S32x1x64 (m ((c.tc : Thread nD τ).loc main_arg9)) shapeCasts_S32x64_S32x1x64 := by
  unfold V V0
  simp only [hostOps0, List.flatten_cons, List.flatten_nil, List.append_nil]
  after_results
  rfl

/-! ## What the blocks hold -/

/-- Agent `s`'s row of the input block, at its grid point, is the agent's row of the input. -/
theorem block0 (b : Fin 256) (s : Fin 32) (k : Fin 512) :
    iblk m c 0 (ptOf s) (ix3 b (rowIn s) k) = m ((c.tc : Thread nD τ).loc main_arg0) (ix2 (row b s) k) := by
  have e := index0 (ptOf s)
  have h : (win0_0.blk (ptOf s)).view.emb (ix3 b (rowIn s) k) = ix3 b s k := by
    funext a
    match a with
    | ⟨0, _⟩ => apply Fin.ext; blk_simp [e]
    | ⟨1, _⟩ => apply Fin.ext; blk_simp [e]; show s.val / 2 / 4 * 8 + s.val % 8 = s.val; omega
    | ⟨2, _⟩ => apply Fin.ext; blk_simp [e]
  show V m c main_v0 ((win0_0.blk (ptOf s)).view.emb (ix3 b (rowIn s) k)) = _
  rw [h, entry0]
  exact shapeCast_apply _ shapeCasts_S8192x512_S256x32x512 (ix3 b s k) (ix2 (row b s) k)
    (by rw [Shape.rowMajor_val_two, Shape.rowMajor_val_three]; rfl)

/-- Agent `s`'s part of the block of the first matrix, at its grid point. -/
theorem block1 (s : Fin 32) (d : Fin 512) (k : Fin 512) :
    iblk m c 1 (ptOf s) (ix3 (inPair s) d k) = m ((c.tc : Thread nD τ).loc main_arg2) (ix3 s d k) := by
  have e := index1 (ptOf s)
  have h : (win0_1.blk (ptOf s)).view.emb (ix3 (inPair s) d k) = ix3 s d k := by
    funext a
    match a with
    | ⟨0, _⟩ => apply Fin.ext; blk_simp [e]; exact pair_eq s
    | ⟨1, _⟩ => apply Fin.ext; blk_simp [e]
    | ⟨2, _⟩ => apply Fin.ext; blk_simp [e]
  show V m c main_arg2 ((win0_1.blk (ptOf s)).view.emb (ix3 (inPair s) d k)) = _
  rw [h, V_main_arg2]

/-- Agent `s`'s part of the block of the input gates' matrix, at its grid point. -/
theorem block3 (s : Fin 32) (d : Fin 1536) (k : Fin 512) :
    iblk m c 3 (ptOf s) (ix3 (inPair s) d k) = m ((c.tc : Thread nD τ).loc main_arg4) (ix3 s d k) := by
  have e := index3 (ptOf s)
  have h : (win0_3.blk (ptOf s)).view.emb (ix3 (inPair s) d k) = ix3 s d k := by
    funext a
    match a with
    | ⟨0, _⟩ => apply Fin.ext; blk_simp [e]; exact pair_eq s
    | ⟨1, _⟩ => apply Fin.ext; blk_simp [e]
    | ⟨2, _⟩ => apply Fin.ext; blk_simp [e]
  show V m c main_arg4 ((win0_3.blk (ptOf s)).view.emb (ix3 (inPair s) d k)) = _
  rw [h, V_main_arg4]

/-- Agent `s`'s part of the block of the last matrix, at its grid point. -/
theorem block6 (s : Fin 32) (d : Fin 64) (k : Fin 512) :
    iblk m c 6 (ptOf s) (ix3 (inPair s) d k) = m ((c.tc : Thread nD τ).loc main_arg8) (ix3 s d k) := by
  have e := index6 (ptOf s)
  have h : (win0_6.blk (ptOf s)).view.emb (ix3 (inPair s) d k) = ix3 s d k := by
    funext a
    match a with
    | ⟨0, _⟩ => apply Fin.ext; blk_simp [e]; exact pair_eq s
    | ⟨1, _⟩ => apply Fin.ext; blk_simp [e]
    | ⟨2, _⟩ => apply Fin.ext; blk_simp [e]
  show V m c main_arg8 ((win0_6.blk (ptOf s)).view.emb (ix3 (inPair s) d k)) = _
  rw [h, V_main_arg8]

/-- Agent `s`'s part of the block of the first bias, at its grid point. -/
theorem block2 (s : Fin 32) (d : Fin 512) :
    iblk m c 2 (ptOf s) (ix3 (inPair s) 0 d) = m ((c.tc : Thread nD τ).loc main_arg3) (ix2 s d) := by
  have e := index2 (ptOf s)
  have h : (win0_2.blk (ptOf s)).view.emb (ix3 (inPair s) 0 d) = ix3 s 0 d := by
    funext a
    match a with
    | ⟨0, _⟩ => apply Fin.ext; blk_simp [e]; exact pair_eq s
    | ⟨1, _⟩ => apply Fin.ext; blk_simp [e]
    | ⟨2, _⟩ => apply Fin.ext; blk_simp [e]
  show V m c main_v1 ((win0_2.blk (ptOf s)).view.emb (ix3 (inPair s) 0 d)) = _
  rw [h, entry2]
  pointwise

/-- Agent `s`'s part of the block of the input gates' bias, at its grid point. -/
theorem block4 (s : Fin 32) (d : Fin 1536) :
    iblk m c 4 (ptOf s) (ix3 (inPair s) 0 d) = m ((c.tc : Thread nD τ).loc main_arg5) (ix2 s d) := by
  have e := index4 (ptOf s)
  have h : (win0_4.blk (ptOf s)).view.emb (ix3 (inPair s) 0 d) = ix3 s 0 d := by
    funext a
    match a with
    | ⟨0, _⟩ => apply Fin.ext; blk_simp [e]; exact pair_eq s
    | ⟨1, _⟩ => apply Fin.ext; blk_simp [e]
    | ⟨2, _⟩ => apply Fin.ext; blk_simp [e]
  show V m c main_v2 ((win0_4.blk (ptOf s)).view.emb (ix3 (inPair s) 0 d)) = _
  rw [h, entry4]
  pointwise

/-- Agent `s`'s part of the block of the hidden gates' bias, at its grid point. -/
theorem block5 (s : Fin 32) (d : Fin 1536) :
    iblk m c 5 (ptOf s) (ix3 (inPair s) 0 d) = m ((c.tc : Thread nD τ).loc main_arg7) (ix2 s d) := by
  have e := index5 (ptOf s)
  have h : (win0_5.blk (ptOf s)).view.emb (ix3 (inPair s) 0 d) = ix3 s 0 d := by
    funext a
    match a with
    | ⟨0, _⟩ => apply Fin.ext; blk_simp [e]; exact pair_eq s
    | ⟨1, _⟩ => apply Fin.ext; blk_simp [e]
    | ⟨2, _⟩ => apply Fin.ext; blk_simp [e]
  show V m c main_v3 ((win0_5.blk (ptOf s)).view.emb (ix3 (inPair s) 0 d)) = _
  rw [h, entry5]
  pointwise

/-- Agent `s`'s part of the block of the last bias, at its grid point. -/
theorem block7 (s : Fin 32) (d : Fin 64) :
    iblk m c 7 (ptOf s) (ix3 (inPair s) 0 d) = m ((c.tc : Thread nD τ).loc main_arg9) (ix2 s d) := by
  have e := index7 (ptOf s)
  have h : (win0_7.blk (ptOf s)).view.emb (ix3 (inPair s) 0 d) = ix3 s 0 d := by
    funext a
    match a with
    | ⟨0, _⟩ => apply Fin.ext; blk_simp [e]; exact pair_eq s
    | ⟨1, _⟩ => apply Fin.ext; blk_simp [e]
    | ⟨2, _⟩ => apply Fin.ext; blk_simp [e]
  show V m c main_v4 ((win0_7.blk (ptOf s)).view.emb (ix3 (inPair s) 0 d)) = _
  rw [h, entry7]
  pointwise

/-! ## The two arrays -/

/-- The input gates that the step of agent `s` computes on batch row `b`, from its blocks. -/
theorem gates_at (b : Fin 256) (s : Fin 32) (g : Fin 1536) :
    k0_pay2 (rowOf (iblk m c 0 (ptOf s)) (rowIn s)) (part1 (iblk m c 1 (ptOf s)) (inPair s)) (part2 (iblk m c 2 (ptOf s)) (inPair s))
        (part3 (iblk m c 3 (ptOf s)) (inPair s)) (part4 (iblk m c 4 (ptOf s)) (inPair s)) (ix2 b g)
      = gates (m ((c.tc : Thread nD τ).loc main_arg0)) (m ((c.tc : Thread nD τ).loc main_arg2)) (m ((c.tc : Thread nD τ).loc main_arg3))
          (m ((c.tc : Thread nD τ).loc main_arg4)) (m ((c.tc : Thread nD τ).loc main_arg5)) b s g := by
  rw [pay2_at]
  unfold gates
  congr 1 <;> funext
  · exact block0 m c b s _
  · exact block1 m c s _ _
  · exact block2 m c s _
  · exact block3 m c s _ _
  · exact block4 m c s _

/-- The hidden state that the step of agent `s` computes on batch row `b`, from its blocks. -/
theorem hidden_at (b : Fin 256) (s : Fin 32) (n : Fin 512) :
    k0_pay8
        (k0_pay4 (rowOf (iblk m c 0 (ptOf s)) (rowIn s)) (part1 (iblk m c 1 (ptOf s)) (inPair s)) (part2 (iblk m c 2 (ptOf s)) (inPair s))
          (part3 (iblk m c 3 (ptOf s)) (inPair s)) (part4 (iblk m c 4 (ptOf s)) (inPair s)) (part4 (iblk m c 5 (ptOf s)) (inPair s)))
        (k0_pay5 (rowOf (iblk m c 0 (ptOf s)) (rowIn s)) (part1 (iblk m c 1 (ptOf s)) (inPair s)) (part2 (iblk m c 2 (ptOf s)) (inPair s))
          (part3 (iblk m c 3 (ptOf s)) (inPair s)) (part4 (iblk m c 4 (ptOf s)) (inPair s)) (part4 (iblk m c 5 (ptOf s)) (inPair s)))
        (k0_pay6 (rowOf (iblk m c 0 (ptOf s)) (rowIn s)) (part1 (iblk m c 1 (ptOf s)) (inPair s)) (part2 (iblk m c 2 (ptOf s)) (inPair s))
          (part3 (iblk m c 3 (ptOf s)) (inPair s)) (part4 (iblk m c 4 (ptOf s)) (inPair s)))
        (k0_pay7 (part4 (iblk m c 5 (ptOf s)) (inPair s))) (ix2 b n)
      = hidden (m ((c.tc : Thread nD τ).loc main_arg0)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg7)) b s n := by
  have hb (g : Fin 1536) : part4 (iblk m c 5 (ptOf s)) (inPair s) (ix3 0 0 g) = m ((c.tc : Thread nD τ).loc main_arg7) (ix2 s g) :=
    block5 m c s g
  rw [pay8_at, pay4_at, pay5_at, pay6_at, pay7_at]
  simp only [gates_at, hb]
  rfl

/-- The kernel's hidden-state array is the new hidden state of every agent on every batch row. -/
theorem hArr_eq : hArr m c = fun i =>
    hidden (m ((c.tc : Thread nD τ).loc main_arg0)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg7)) (i 0) (i 1) (i 2) := by
  funext i
  exact (pay9_at _ _ _ _ (i 0) (i 2)).trans (hidden_at m c (i 0) (i 1) (i 2))

/-- The action values that the step of agent `s` computes on batch row `b`, from the arguments. -/
theorem qAt_eq (b : Fin 256) (s : Fin 32) (a : Fin 64) : qAt m c b s a =
    values (m ((c.tc : Thread nD τ).loc main_arg0)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg7))
      (m ((c.tc : Thread nD τ).loc main_arg8)) (m ((c.tc : Thread nD τ).loc main_arg9)) b s a :=
  (pay10_at _ _ _ _ _ _ b a).trans
    (congrFun (congr (congr (congrArg value (funext fun n => hidden_at m c b s n)) (funext fun a => funext fun n => block6 m c s a n))
      (funext fun a => block7 m c s a)) a)

/-- The kernel's action-value array is the action values of every agent on every batch row. -/
theorem qArr_eq : qArr m c = fun i =>
    values (m ((c.tc : Thread nD τ).loc main_arg0)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg7))
      (m ((c.tc : Thread nD τ).loc main_arg8)) (m ((c.tc : Thread nD τ).loc main_arg9)) (i 0) (i 1) (i 2) :=
  funext fun i => qAt_eq m c (i 0) (i 1) (i 2)

end Cert.KernelIdeal.Hand
-- ==== Proof.Hand.Equal.lean ====
module

public import proofs.«01_k».proof.Defs
public import proofs.«01_k».proof.Proof.Gen.Pre_zero_hidden
public import proofs.«01_k».proof.Proof.Hand.Values
public import proofs.«01_k».proof.Proof.Hand.Ref
public import Idealize.ShloMosaic.Lib.ReduceAll

@[expose] public section

set_option maxRecDepth 16384

noncomputable section

/-! # The kernel's results are the reference's -/

namespace Cert.Hand

open Idealize.ShloMosaic Idealize.ShloMosaic.TcCoe Idealize.SL.Sem Cert.Spec

/-- The one-element result of the precondition has a single index. -/
instance : Subsingleton Cert.Pre_zero_hidden.S_.Idx := ⟨fun _ _ => funext fun a => a.elim0⟩

/-- Under the precondition every entry of the hidden state that enters is zero. -/
theorem hidden_zero (m : (ℓ : Loc Cert.KernelIdeal.nD Cert.KernelIdeal.τ Cert.KernelIdeal.sig) → Buf (Elt Ideal) ℓ)
    (h : Cert.Pre_KernelIdeal_zero_hidden m) (c : Dev Cert.KernelIdeal.nD) (i : Cert.KernelIdeal.S256x32x512.Idx) :
    m ((c.tc : Thread Cert.KernelIdeal.nD Cert.KernelIdeal.τ).loc Cert.KernelIdeal.main_arg1) i = (0 : EReal) := by
  have e := congrFun (h c) (fun a => a.elim0)
  have e' := Host.reduce_andi_all _ _ _ _ _ e i
  have hd : BitVec.ofBool (decide ((m ((c.tc : Thread Cert.KernelIdeal.nD Cert.KernelIdeal.τ).loc Cert.KernelIdeal.main_arg1)
      : Cert.KernelIdeal.S256x32x512.Idx → EReal) i = Ideal.ofBits .f32 0x00000000#32)) = 1#1 := e'
  rw [Ideal.ofBits_zero_f32] at hd
  by_contra hne
  rw [decide_eq_false hne] at hd
  exact absurd hd (by decide)

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- The two memories hold the same arguments on the core `c`. -/
def Agree (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)

/-- An index of three axes is its three coordinates. -/
theorem eta3 {p q r : ℕ} (i : (⟨3, ![p, q, r]⟩ : Shape).Idx) : i = ix3 (i 0) (i 1) (i 2) := by
  funext a
  match a with
  | ⟨0, _⟩ => rfl
  | ⟨1, _⟩ => rfl
  | ⟨2, _⟩ => rfl

/-- The reference's new hidden state is the kernel's. -/
theorem hidden_eq (hz : Cert.Pre_KernelIdeal_zero_hidden m) (c : Dev Cert.KernelIdeal.nD) (h : Agree m m' c) :
    Cert.ReferenceIdeal.Value.res_main_v44 m' c = Cert.KernelIdeal.Hand.hArr m c := by
  obtain ⟨h0, h1, h2, h3, h4, h5, h6, h7, h8, h9⟩ := h
  rw [Cert.ReferenceIdeal.Read.val_main_v44_eq, h0, h1, h2, h3, h4, h5, h6, h7, Cert.KernelIdeal.Hand.hArr_eq]
  funext i
  refine (congrArg _ (eta3 (p := 256) (q := 32) (r := 512) i)).trans ?_
  exact Cert.ReferenceIdeal.Hand.v44_at _ _ _ _ _ _ _ _ (hidden_zero m hz c) (i 0) (i 1) (i 2)

/-- The reference's action values are the kernel's, both in the shape of the result. -/
theorem values_eq (hz : Cert.Pre_KernelIdeal_zero_hidden m) (c : Dev Cert.KernelIdeal.nD) (h : Agree m m' c) :
    Cert.ReferenceIdeal.Value.res_main_v50 m' c
      = shapeCast Cert.KernelIdeal.S8192x64 (Cert.KernelIdeal.Hand.qArr m c) Cert.KernelIdeal.Gen.shapeCasts_S256x32x64_S8192x64 := by
  obtain ⟨h0, h1, h2, h3, h4, h5, h6, h7, h8, h9⟩ := h
  rw [Cert.ReferenceIdeal.Read.val_main_v50_eq, h0, h1, h2, h3, h4, h5, h6, h7, h8, h9, Cert.KernelIdeal.Hand.qArr_eq]
  unfold Cert.ReferenceIdeal.Read.val_main_v50
  refine congrArg (fun x => shapeCast Cert.KernelIdeal.S8192x64 x Cert.KernelIdeal.Gen.shapeCasts_S256x32x64_S8192x64) ?_
  funext i
  refine (congrArg _ (eta3 (p := 256) (q := 32) (r := 64) i)).trans ?_
  exact Cert.ReferenceIdeal.Hand.v49_at _ _ _ _ _ _ _ _ _ _ (hidden_zero m hz c) (i 0) (i 1) (i 2)

end Cert.Hand
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Hand.KernelFrame
public import proofs.«01_k».proof.Proof.Hand.Arrays
public import proofs.«01_k».proof.Proof.Hand.Ref
public import proofs.«01_k».proof.Proof.Hand.Equal
public import proofs.«01_k».proof.Proof.Gen.Pre_zero_hidden
public import Idealize.ShloMosaic.Adequacy
public import Idealize.ShloMosaic.Init

@[expose] public section

noncomputable section

namespace Cert.Proof

open Idealize.ShloMosaic Idealize.SL.Sem Cert.Kernel

/-- The idealized kernel ends with its arguments as they were and every semaphore counter at zero. -/
theorem frame_ideal : Cert.quiescent_KernelIdeal (hKernelIdeal := Cert.KernelIdeal.Gen.facts) := fun m ρ _ =>
  (θ_run _ _ _).mono (fun _ h => ⟨fun c => (h.1 c).2.2, h.2⟩) (Cert.KernelIdeal.Hand.run m ρ)

/-- The reference ends with its arguments as they were; it has no semaphores. -/
theorem frame_reference : Cert.quiescent_ReferenceIdeal (hReferenceIdeal := Cert.ReferenceIdeal.Gen.facts) := fun m ρ _ =>
  (θ_run _ _ _).mono (fun r h => ⟨fun c => (h c).2.2, sem_eq_zero_of_no_sems (by decide) r.2⟩) (Cert.ReferenceIdeal.Value.run m ρ)

/-- Where the entering hidden state is zero, kernel and reference end with the same two results. -/
theorem same_results : Cert.algebraic_KernelIdeal_ReferenceIdeal_pre_zero_hidden (hKernelIdeal := Cert.KernelIdeal.Gen.facts)
    (hReferenceIdeal := Cert.ReferenceIdeal.Gen.facts) (hPre_zero_hidden := Cert.Pre_zero_hidden.Gen.facts) :=
  fun m ρ m' ρ' hz hagree =>
    ⟨fun c => shapeCast Cert.KernelIdeal.S8192x64 (Cert.KernelIdeal.Hand.qArr m c) Cert.KernelIdeal.Gen.shapeCasts_S256x32x64_S8192x64,
      fun c => Cert.KernelIdeal.Hand.hArr m c,
      (θ_run _ _ _).mono (fun _ h => h.1) (Cert.KernelIdeal.Hand.run m ρ),
      (θ_run _ _ _).mono (fun _ h c => ⟨(h c).1.trans (Cert.Hand.values_eq m m' hz c (hagree c)),
        (h c).2.1.trans (Cert.Hand.hidden_eq m m' hz c (hagree c)), (h c).2.2⟩) (Cert.ReferenceIdeal.Value.run m' ρ')⟩

/-- All the claims. -/
theorem claim : Cert.Claim := ⟨Cert.Kernel.Gen.facts, Cert.KernelIdeal.Gen.facts, Cert.ReferenceIdeal.Gen.facts, Cert.Pre_zero_hidden.Gen.facts,
  fun m ρ _ => Cert.Kernel.Hand.frame m ρ, frame_ideal, fun m ρ _ => frame_ideal m ρ trivial,
  frame_reference, fun m ρ _ => frame_reference m ρ trivial, trivial, same_results⟩

end Cert.Proof

end
